-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![16, 256, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![16, 256, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S7x256x1024 : Shape := ⟨3, ![7, 256, 1024]⟩
abbrev S7x2x256x1024 : Shape := ⟨4, ![7, 2, 256, 1024]⟩
abbrev S7 : Shape := ⟨1, ![7]⟩
abbrev S1 : Shape := ⟨1, ![1]⟩
abbrev S_ : Shape := ⟨0, ![]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x1x256x1024 : Shape := ⟨4, ![1, 1, 256, 1024]⟩
abbrev S1x2x256x1024 : Shape := ⟨4, ![1, 2, 256, 1024]⟩
abbrev S2x256x1024 : Shape := ⟨3, ![2, 256, 1024]⟩

abbrev nBuf : Space → Nat
  | .hbm => 6
  | .vmem => 19
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .f32⟩
  | .local _ .vmem, ⟨6, _⟩ => ⟨S256x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S7x256x1024, .bf16⟩
  | .local _ .vmem, ⟨12, _⟩ => ⟨S7x256x1024, .bf16⟩
  | .local _ .vmem, ⟨13, _⟩ => ⟨S256x1024, .bf16⟩
  | .local _ .vmem, ⟨14, _⟩ => ⟨S7x2x256x1024, .bf16⟩
  | .local _ .vmem, ⟨15, _⟩ => ⟨S256x1024, .bf16⟩
  | .local _ .vmem, ⟨16, _⟩ => ⟨S7x2x256x1024, .bf16⟩
  | .local _ .vmem, ⟨17, _⟩ => ⟨S256x1024, .bf16⟩
  | .local _ .vmem, ⟨18, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c1_i32_2 : BitVec 32 := 1#32
  let v8 : BitVec 32 := Scalar.addi v3 c1_i32_2
  let c8_i32_3 : BitVec 32 := 8#32
  let v9 : BitVec 32 := Scalar.remsi v8 c8_i32_3
  let v10 : BitVec 32 := Scalar.addi v4 v9
  let c1_i32_5 : BitVec 32 := 1#32
  let v11 : BitVec 32 := Scalar.muli v10 c1_i32_5
  let v12 : BitVec 32 := Scalar.addi c0_i32 v11
  v12.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c2_i32 : BitVec 32 := 2#32
  let v13 : BitVec 32 := Scalar.addi v3 c2_i32
  let c8_i32_6 : BitVec 32 := 8#32
  let v14 : BitVec 32 := Scalar.remsi v13 c8_i32_6
  let v15 : BitVec 32 := Scalar.addi v4 v14
  let c1_i32_8 : BitVec 32 := 1#32
  let v16 : BitVec 32 := Scalar.muli v15 c1_i32_8
  let v17 : BitVec 32 := Scalar.addi c0_i32_9 v16
  v17.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c3_i32 : BitVec 32 := 3#32
  let v18 : BitVec 32 := Scalar.addi v3 c3_i32
  let c8_i32_10 : BitVec 32 := 8#32
  let v19 : BitVec 32 := Scalar.remsi v18 c8_i32_10
  let v20 : BitVec 32 := Scalar.addi v4 v19
  let c1_i32_12 : BitVec 32 := 1#32
  let v21 : BitVec 32 := Scalar.muli v20 c1_i32_12
  let v22 : BitVec 32 := Scalar.addi c0_i32_13 v21
  v22.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c4_i32 : BitVec 32 := 4#32
  let v23 : BitVec 32 := Scalar.addi v3 c4_i32
  let c8_i32_14 : BitVec 32 := 8#32
  let v24 : BitVec 32 := Scalar.remsi v23 c8_i32_14
  let v25 : BitVec 32 := Scalar.addi v4 v24
  let c1_i32_16 : BitVec 32 := 1#32
  let v26 : BitVec 32 := Scalar.muli v25 c1_i32_16
  let v27 : BitVec 32 := Scalar.addi c0_i32_17 v26
  v27.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c5_i32 : BitVec 32 := 5#32
  let v28 : BitVec 32 := Scalar.addi v3 c5_i32
  let c8_i32_18 : BitVec 32 := 8#32
  let v29 : BitVec 32 := Scalar.remsi v28 c8_i32_18
  let v30 : BitVec 32 := Scalar.addi v4 v29
  let c1_i32_20 : BitVec 32 := 1#32
  let v31 : BitVec 32 := Scalar.muli v30 c1_i32_20
  let v32 : BitVec 32 := Scalar.addi c0_i32_21 v31
  v32.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c6_i32 : BitVec 32 := 6#32
  let v33 : BitVec 32 := Scalar.addi v3 c6_i32
  let c8_i32_22 : BitVec 32 := 8#32
  let v34 : BitVec 32 := Scalar.remsi v33 c8_i32_22
  let v35 : BitVec 32 := Scalar.addi v4 v34
  let c1_i32_24 : BitVec 32 := 1#32
  let v36 : BitVec 32 := Scalar.muli v35 c1_i32_24
  let v37 : BitVec 32 := Scalar.addi c0_i32_25 v36
  v37.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c7_i32 : BitVec 32 := 7#32
  let v38 : BitVec 32 := Scalar.addi v3 c7_i32
  let c8_i32_26 : BitVec 32 := 8#32
  let v39 : BitVec 32 := Scalar.remsi v38 c8_i32_26
  let v40 : BitVec 32 := Scalar.addi v4 v39
  let c1_i32_28 : BitVec 32 := 1#32
  let v41 : BitVec 32 := Scalar.muli v40 c1_i32_28
  let v42 : BitVec 32 := Scalar.addi c0_i32_29 v41
  v42.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_0 : BitVec 32 := 8#32
  let v5 : BitVec 32 := Scalar.addi v2 c8_i32_0
  let c16_i32_1 : BitVec 32 := 16#32
  let v6 : BitVec 32 := Scalar.remsi v5 c16_i32_1
  let c1_i32_31 : BitVec 32 := 1#32
  let v43 : BitVec 32 := Scalar.muli v6 c1_i32_31
  let v44 : BitVec 32 := Scalar.addi c0_i32_32 v43
  v44.toNat
def k0_dev9 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_0 : BitVec 32 := 8#32
  let v5 : BitVec 32 := Scalar.addi v2 c8_i32_0
  let c16_i32_1 : BitVec 32 := 16#32
  let v6 : BitVec 32 := Scalar.remsi v5 c16_i32_1
  let c1_i32_40 : BitVec 32 := 1#32
  let v51 : BitVec 32 := Scalar.muli v6 c1_i32_40
  let v52 : BitVec 32 := Scalar.addi c0_i32_41 v51
  v52.toNat
def k0_dev10 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c1_i32_42 : BitVec 32 := 1#32
  let v57 : BitVec 32 := Scalar.addi v3 c1_i32_42
  let c8_i32_43 : BitVec 32 := 8#32
  let v58 : BitVec 32 := Scalar.remsi v57 c8_i32_43
  let v59 : BitVec 32 := Scalar.addi v4 v58
  let c1_i32_47 : BitVec 32 := 1#32
  let v60 : BitVec 32 := Scalar.muli v59 c1_i32_47
  let v61 : BitVec 32 := Scalar.addi c0_i32_48 v60
  v61.toNat
def k0_dev11 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c2_i32_51 : BitVec 32 := 2#32
  let v68 : BitVec 32 := Scalar.addi v3 c2_i32_51
  let c8_i32_52 : BitVec 32 := 8#32
  let v69 : BitVec 32 := Scalar.remsi v68 c8_i32_52
  let v70 : BitVec 32 := Scalar.addi v4 v69
  let c1_i32_56 : BitVec 32 := 1#32
  let v71 : BitVec 32 := Scalar.muli v70 c1_i32_56
  let v72 : BitVec 32 := Scalar.addi c0_i32_57 v71
  v72.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c3_i32_60 : BitVec 32 := 3#32
  let v79 : BitVec 32 := Scalar.addi v3 c3_i32_60
  let c8_i32_61 : BitVec 32 := 8#32
  let v80 : BitVec 32 := Scalar.remsi v79 c8_i32_61
  let v81 : BitVec 32 := Scalar.addi v4 v80
  let c1_i32_65 : BitVec 32 := 1#32
  let v82 : BitVec 32 := Scalar.muli v81 c1_i32_65
  let v83 : BitVec 32 := Scalar.addi c0_i32_66 v82
  v83.toNat
def k0_dev13 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c4_i32_69 : BitVec 32 := 4#32
  let v90 : BitVec 32 := Scalar.addi v3 c4_i32_69
  let c8_i32_70 : BitVec 32 := 8#32
  let v91 : BitVec 32 := Scalar.remsi v90 c8_i32_70
  let v92 : BitVec 32 := Scalar.addi v4 v91
  let c1_i32_74 : BitVec 32 := 1#32
  let v93 : BitVec 32 := Scalar.muli v92 c1_i32_74
  let v94 : BitVec 32 := Scalar.addi c0_i32_75 v93
  v94.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c5_i32_78 : BitVec 32 := 5#32
  let v101 : BitVec 32 := Scalar.addi v3 c5_i32_78
  let c8_i32_79 : BitVec 32 := 8#32
  let v102 : BitVec 32 := Scalar.remsi v101 c8_i32_79
  let v103 : BitVec 32 := Scalar.addi v4 v102
  let c1_i32_83 : BitVec 32 := 1#32
  let v104 : BitVec 32 := Scalar.muli v103 c1_i32_83
  let v105 : BitVec 32 := Scalar.addi c0_i32_84 v104
  v105.toNat
def k0_dev15 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c6_i32_87 : BitVec 32 := 6#32
  let v112 : BitVec 32 := Scalar.addi v3 c6_i32_87
  let c8_i32_88 : BitVec 32 := 8#32
  let v113 : BitVec 32 := Scalar.remsi v112 c8_i32_88
  let v114 : BitVec 32 := Scalar.addi v4 v113
  let c1_i32_92 : BitVec 32 := 1#32
  let v115 : BitVec 32 := Scalar.muli v114 c1_i32_92
  let v116 : BitVec 32 := Scalar.addi c0_i32_93 v115
  v116.toNat
def k0_dev16 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c7_i32_96 : BitVec 32 := 7#32
  let v123 : BitVec 32 := Scalar.addi v3 c7_i32_96
  let c8_i32_97 : BitVec 32 := 8#32
  let v124 : BitVec 32 := Scalar.remsi v123 c8_i32_97
  let v125 : BitVec 32 := Scalar.addi v4 v124
  let c1_i32_101 : BitVec 32 := 1#32
  let v126 : BitVec 32 := Scalar.muli v125 c1_i32_101
  let v127 : BitVec 32 := Scalar.addi c0_i32_102 v126
  v127.toNat
def k0_dev17 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c1_i32_174 : BitVec 32 := 1#32
  let v308 : BitVec 32 := Scalar.addi v3 c1_i32_174
  let c8_i32_175 : BitVec 32 := 8#32
  let v309 : BitVec 32 := Scalar.remsi v308 c8_i32_175
  let v310 : BitVec 32 := Scalar.addi v4 v309
  let c1_i32_179 : BitVec 32 := 1#32
  let v311 : BitVec 32 := Scalar.muli v310 c1_i32_179
  let v312 : BitVec 32 := Scalar.addi c0_i32_180 v311
  v312.toNat
def k0_dev18 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c2_i32_183 : BitVec 32 := 2#32
  let v319 : BitVec 32 := Scalar.addi v3 c2_i32_183
  let c8_i32_184 : BitVec 32 := 8#32
  let v320 : BitVec 32 := Scalar.remsi v319 c8_i32_184
  let v321 : BitVec 32 := Scalar.addi v4 v320
  let c1_i32_188 : BitVec 32 := 1#32
  let v322 : BitVec 32 := Scalar.muli v321 c1_i32_188
  let v323 : BitVec 32 := Scalar.addi c0_i32_189 v322
  v323.toNat
def k0_dev19 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c3_i32_192 : BitVec 32 := 3#32
  let v330 : BitVec 32 := Scalar.addi v3 c3_i32_192
  let c8_i32_193 : BitVec 32 := 8#32
  let v331 : BitVec 32 := Scalar.remsi v330 c8_i32_193
  let v332 : BitVec 32 := Scalar.addi v4 v331
  let c1_i32_197 : BitVec 32 := 1#32
  let v333 : BitVec 32 := Scalar.muli v332 c1_i32_197
  let v334 : BitVec 32 := Scalar.addi c0_i32_198 v333
  v334.toNat
def k0_dev20 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c4_i32_201 : BitVec 32 := 4#32
  let v341 : BitVec 32 := Scalar.addi v3 c4_i32_201
  let c8_i32_202 : BitVec 32 := 8#32
  let v342 : BitVec 32 := Scalar.remsi v341 c8_i32_202
  let v343 : BitVec 32 := Scalar.addi v4 v342
  let c1_i32_206 : BitVec 32 := 1#32
  let v344 : BitVec 32 := Scalar.muli v343 c1_i32_206
  let v345 : BitVec 32 := Scalar.addi c0_i32_207 v344
  v345.toNat
def k0_dev21 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c5_i32_210 : BitVec 32 := 5#32
  let v352 : BitVec 32 := Scalar.addi v3 c5_i32_210
  let c8_i32_211 : BitVec 32 := 8#32
  let v353 : BitVec 32 := Scalar.remsi v352 c8_i32_211
  let v354 : BitVec 32 := Scalar.addi v4 v353
  let c1_i32_215 : BitVec 32 := 1#32
  let v355 : BitVec 32 := Scalar.muli v354 c1_i32_215
  let v356 : BitVec 32 := Scalar.addi c0_i32_216 v355
  v356.toNat
def k0_dev22 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c6_i32_219 : BitVec 32 := 6#32
  let v363 : BitVec 32 := Scalar.addi v3 c6_i32_219
  let c8_i32_220 : BitVec 32 := 8#32
  let v364 : BitVec 32 := Scalar.remsi v363 c8_i32_220
  let v365 : BitVec 32 := Scalar.addi v4 v364
  let c1_i32_224 : BitVec 32 := 1#32
  let v366 : BitVec 32 := Scalar.muli v365 c1_i32_224
  let v367 : BitVec 32 := Scalar.addi c0_i32_225 v366
  v367.toNat
def k0_dev23 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c7_i32_228 : BitVec 32 := 7#32
  let v374 : BitVec 32 := Scalar.addi v3 c7_i32_228
  let c8_i32_229 : BitVec 32 := 8#32
  let v375 : BitVec 32 := Scalar.remsi v374 c8_i32_229
  let v376 : BitVec 32 := Scalar.addi v4 v375
  let c1_i32_233 : BitVec 32 := 1#32
  let v377 : BitVec 32 := Scalar.muli v376 c1_i32_233
  let v378 : BitVec 32 := Scalar.addi c0_i32_234 v377
  v378.toNat
def k0_dev24 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c1_i32_409 : BitVec 32 := 1#32
  let v844 : BitVec 32 := Scalar.subi v3 c1_i32_409
  let c8_i32_410 : BitVec 32 := 8#32
  let v845 : BitVec 32 := Scalar.addi v844 c8_i32_410
  let c8_i32_411 : BitVec 32 := 8#32
  let v846 : BitVec 32 := Scalar.remsi v845 c8_i32_411
  let v847 : BitVec 32 := Scalar.addi v4 v846
  let c1_i32_416 : BitVec 32 := 1#32
  let v848 : BitVec 32 := Scalar.muli v847 c1_i32_416
  let v849 : BitVec 32 := Scalar.addi c0_i32_417 v848
  v849.toNat
def k0_dev25 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c2_i32_548 : BitVec 32 := 2#32
  let v1170 : BitVec 32 := Scalar.subi v3 c2_i32_548
  let c8_i32_549 : BitVec 32 := 8#32
  let v1171 : BitVec 32 := Scalar.addi v1170 c8_i32_549
  let c8_i32_550 : BitVec 32 := 8#32
  let v1172 : BitVec 32 := Scalar.remsi v1171 c8_i32_550
  let v1173 : BitVec 32 := Scalar.addi v4 v1172
  let c1_i32_555 : BitVec 32 := 1#32
  let v1174 : BitVec 32 := Scalar.muli v1173 c1_i32_555
  let v1175 : BitVec 32 := Scalar.addi c0_i32_556 v1174
  v1175.toNat
def k0_dev26 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c3_i32_686 : BitVec 32 := 3#32
  let v1496 : BitVec 32 := Scalar.subi v3 c3_i32_686
  let c8_i32_687 : BitVec 32 := 8#32
  let v1497 : BitVec 32 := Scalar.addi v1496 c8_i32_687
  let c8_i32_688 : BitVec 32 := 8#32
  let v1498 : BitVec 32 := Scalar.remsi v1497 c8_i32_688
  let v1499 : BitVec 32 := Scalar.addi v4 v1498
  let c1_i32_693 : BitVec 32 := 1#32
  let v1500 : BitVec 32 := Scalar.muli v1499 c1_i32_693
  let v1501 : BitVec 32 := Scalar.addi c0_i32_694 v1500
  v1501.toNat
def k0_dev27 (d0 : Dev nD) : Nat :=
  let c0_i32_832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c4_i32_824 : BitVec 32 := 4#32
  let v1822 : BitVec 32 := Scalar.subi v3 c4_i32_824
  let c8_i32_825 : BitVec 32 := 8#32
  let v1823 : BitVec 32 := Scalar.addi v1822 c8_i32_825
  let c8_i32_826 : BitVec 32 := 8#32
  let v1824 : BitVec 32 := Scalar.remsi v1823 c8_i32_826
  let v1825 : BitVec 32 := Scalar.addi v4 v1824
  let c1_i32_831 : BitVec 32 := 1#32
  let v1826 : BitVec 32 := Scalar.muli v1825 c1_i32_831
  let v1827 : BitVec 32 := Scalar.addi c0_i32_832 v1826
  v1827.toNat
def k0_dev28 (d0 : Dev nD) : Nat :=
  let c0_i32_970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c5_i32_962 : BitVec 32 := 5#32
  let v2148 : BitVec 32 := Scalar.subi v3 c5_i32_962
  let c8_i32_963 : BitVec 32 := 8#32
  let v2149 : BitVec 32 := Scalar.addi v2148 c8_i32_963
  let c8_i32_964 : BitVec 32 := 8#32
  let v2150 : BitVec 32 := Scalar.remsi v2149 c8_i32_964
  let v2151 : BitVec 32 := Scalar.addi v4 v2150
  let c1_i32_969 : BitVec 32 := 1#32
  let v2152 : BitVec 32 := Scalar.muli v2151 c1_i32_969
  let v2153 : BitVec 32 := Scalar.addi c0_i32_970 v2152
  v2153.toNat
def k0_dev29 (d0 : Dev nD) : Nat :=
  let c0_i32_1108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c6_i32_1100 : BitVec 32 := 6#32
  let v2474 : BitVec 32 := Scalar.subi v3 c6_i32_1100
  let c8_i32_1101 : BitVec 32 := 8#32
  let v2475 : BitVec 32 := Scalar.addi v2474 c8_i32_1101
  let c8_i32_1102 : BitVec 32 := 8#32
  let v2476 : BitVec 32 := Scalar.remsi v2475 c8_i32_1102
  let v2477 : BitVec 32 := Scalar.addi v4 v2476
  let c1_i32_1107 : BitVec 32 := 1#32
  let v2478 : BitVec 32 := Scalar.muli v2477 c1_i32_1107
  let v2479 : BitVec 32 := Scalar.addi c0_i32_1108 v2478
  v2479.toNat
def k0_dev30 (d0 : Dev nD) : Nat :=
  let c0_i32_1246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v4 : BitVec 32 := Scalar.subi v2 v3
  let c7_i32_1238 : BitVec 32 := 7#32
  let v2800 : BitVec 32 := Scalar.subi v3 c7_i32_1238
  let c8_i32_1239 : BitVec 32 := 8#32
  let v2801 : BitVec 32 := Scalar.addi v2800 c8_i32_1239
  let c8_i32_1240 : BitVec 32 := 8#32
  let v2802 : BitVec 32 := Scalar.remsi v2801 c8_i32_1240
  let v2803 : BitVec 32 := Scalar.addi v4 v2802
  let c1_i32_1245 : BitVec 32 := 1#32
  let v2804 : BitVec 32 := Scalar.muli v2803 c1_i32_1245
  let v2805 : BitVec 32 := Scalar.addi c0_i32_1246 v2804
  v2805.toNat
def k0_dev31 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_0 : BitVec 32 := 8#32
  let v5 : BitVec 32 := Scalar.addi v2 c8_i32_0
  let c16_i32_1 : BitVec 32 := 16#32
  let v6 : BitVec 32 := Scalar.remsi v5 c16_i32_1
  let c1_i32_1371 : BitVec 32 := 1#32
  let v2904 : BitVec 32 := Scalar.muli v6 c1_i32_1371
  let v2905 : BitVec 32 := Scalar.addi c0_i32_1372 v2904
  v2905.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x256x1024 : Shape := ⟨3, ![16, 256, 1024]⟩
abbrev S1024x16384 : Shape := ⟨2, ![1024, 16384]⟩
abbrev S16384x1024 : Shape := ⟨2, ![16384, 1024]⟩
abbrev S16x256x16384 : Shape := ⟨3, ![16, 256, 16384]⟩
abbrev S16x256x128x128 : Shape := ⟨4, ![16, 256, 128, 128]⟩
abbrev S_ : Shape := ⟨0, ![]⟩
abbrev S16x128x256x1 : Shape := ⟨4, ![16, 128, 256, 1]⟩
abbrev S16x128x256x256 : Shape := ⟨4, ![16, 128, 256, 256]⟩
abbrev S16x128x256 : Shape := ⟨3, ![16, 128, 256]⟩
abbrev S16x256x128x1 : Shape := ⟨4, ![16, 256, 128, 1]⟩
abbrev S16x128x128x256 : Shape := ⟨4, ![16, 128, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S16x256x16384, .f32⟩
  | .hbm, ⟨6, _⟩ => ⟨S16x256x128x128, .f32⟩
  | .hbm, ⟨7, _⟩ => ⟨S16x256x16384, .f32⟩
  | .hbm, ⟨8, _⟩ => ⟨S16x256x128x128, .f32⟩
  | .hbm, ⟨9, _⟩ => ⟨S16x256x16384, .f32⟩
  | .hbm, ⟨10, _⟩ => ⟨S16x256x128x128, .f32⟩
  | .hbm, ⟨11, _⟩ => ⟨S_, .f32⟩
  | .hbm, ⟨12, _⟩ => ⟨S16x256x128x128, .f32⟩
  | .hbm, ⟨13, _⟩ => ⟨S_, .f32⟩
  | .hbm, ⟨14, _⟩ => ⟨S16x128x256x1, .f32⟩
  | .hbm, ⟨15, _⟩ => ⟨S_, .f32⟩
  | .hbm, ⟨16, _⟩ => ⟨S16x128x256x1, .f32⟩
  | .hbm, ⟨17, _⟩ => ⟨S16x128x256x256, .f32⟩
  | .hbm, ⟨18, _⟩ => ⟨S_, .f32⟩
  | .hbm, ⟨19, _⟩ => ⟨S16x128x256x256, .f32⟩
  | .hbm, ⟨20, _⟩ => ⟨S16x128x256x256, .f32⟩
  | .hbm, ⟨21, _⟩ => ⟨S_, .f32⟩
  | .hbm, ⟨22, _⟩ => ⟨S16x128x256, .f32⟩
  | .hbm, ⟨23, _⟩ => ⟨S16x128x256x1, .f32⟩
  | .hbm, ⟨24, _⟩ => ⟨S16x128x256x1, .f32⟩
  | .hbm, ⟨25, _⟩ => ⟨S16x128x256x1, .f32⟩
  | .hbm, ⟨26, _⟩ => ⟨S16x128x256x1, .f32⟩
  | .hbm, ⟨27, _⟩ => ⟨S16x128x256x256, .f32⟩
  | .hbm, ⟨28, _⟩ => ⟨S16x128x256x256, .f32⟩
  | .hbm, ⟨29, _⟩ => ⟨S16x128x256x256, .f32⟩
  | .hbm, ⟨30, _⟩ => ⟨S16x128x256x1, .f32⟩
  | .hbm, ⟨31, _⟩ => ⟨S_, .f32⟩
  | .hbm, ⟨32, _⟩ => ⟨S16x128x256, .f32⟩
  | .hbm, ⟨33, _⟩ => ⟨S16x128x256x1, .f32⟩
  | .hbm, ⟨34, _⟩ => ⟨S16x128x256x1, .f32⟩
  | .hbm, ⟨35, _⟩ => ⟨S16x256x128x1, .f32⟩
  | .hbm, ⟨36, _⟩ => ⟨S16x256x128x128, .f32⟩
  | .hbm, ⟨37, _⟩ => ⟨S16x256x128x128, .f32⟩
  | .hbm, ⟨38, _⟩ => ⟨S16x128x128x256, .f32⟩
  | .hbm, ⟨39, _⟩ => ⟨S16x256x128x128, .f32⟩
  | .hbm, ⟨40, _⟩ => ⟨S16x256x128x128, .f32⟩
  | .hbm, ⟨41, _⟩ => ⟨S16x256x128x1, .f32⟩
  | .hbm, ⟨42, _⟩ => ⟨S16x256x128x128, .f32⟩
  | .hbm, ⟨43, _⟩ => ⟨S16x256x128x128, .f32⟩
  | .hbm, ⟨44, _⟩ => ⟨S16x256x16384, .f32⟩
  | .hbm, ⟨45, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Steps.lean ====
/-
# The kernel's body, regrouped

The printed body of the kernel is a straight line of some two hundred memory operations in which each phase is
repeated seven times, once per peer of the device's group. This module writes the same line with the repetition
folded: one definition per step, indexed by the peer, and one function `attn` for the attention every step
computes. `body_eq` says that the printed body IS this program.
-/
module

public import proofs.«01_k».proof.Proof.Gen.KernelIdeal
public import proofs.«01_k».proof.Proof.Gen.KernelIdeal.Points

@[expose] public section

noncomputable section

namespace Cert.Heads

open Cert.KernelIdeal Cert.KernelIdeal.Gen

open Idealize.ShloMosaic
open Idealize.ShloMosaic.TcCoe
open Idealize.SL.Sem

variable {F : FTy → Type} [FloatOps F]

/-! ## The arithmetic -/

/-- A projection: `x · w`, accumulated in f32. -/
def proj (x : FVec F S256x1024 .bf16) (w : FVec F S1024x1024 .bf16) : FVec F S256x1024 .f32 :=
  matmul dot_S256x1024_S1024x1024_S256x1024_1_0_0_1_n_n none x w (constant S256x1024 .f32 0x00000000#32)

/-- One head: the softmax of the scores of `q` against `k`, unnormalised, times `v`, over the sum of the weights. -/
def head (q k v : FVec F S256x128 .bf16) : FVec F S256x128 .bf16 :=
  let s : FVec F S256x256 .f32 :=
    matmul dot_S256x128_S256x128_S256x256_1_1_0_0_n_n none q k (constant S256x256 .f32 0x00000000#32)
  let mx : FVec F S256 .f32 :=
    multiReduction .maximumf [1] S256 s 0xFF800000#32 reduces_S256x256_S256 (.inl rfl) rfl
  let p : FVec F S256x256 .f32 :=
    exp (subf s (broadcastTo S256x256 (shapeCast S256x1 mx shapeCasts_S256_S256x1) broadcasts_S256x1_S256x256))
  let l : FVec F S256 .f32 :=
    multiReduction .add [1] S256 p 0x00000000#32 reduces_S256x256_S256 (.inl rfl) rfl
  let o : FVec F S256x128 .f32 :=
    matmul dot_S256x256_S256x128_S256x128_1_0_0_1_n_n none (truncf .bf16 p bitsLt_bf16_f32) v
      (constant S256x128 .f32 0x00000000#32)
  truncf .bf16
    (divf o (broadcastTo S256x128 (shapeCast S256x1 l shapeCasts_S256_S256x1) broadcasts_S256x1_S256x128))
    bitsLt_bf16_f32

/-- The eight heads of the projected queries, keys and values, side by side. -/
def heads (q k v : FVec F S256x1024 .bf16) : FVec F S256x1024 .bf16 :=
  concatenate S256x1024 1
    [⟨S256x128, head (extractStridedSlice S256x128 ![0, 0] q slices_S256x1024_o0_0_S256x128)
        (extractStridedSlice S256x128 ![0, 0] k slices_S256x1024_o0_0_S256x128)
        (extractStridedSlice S256x128 ![0, 0] v slices_S256x1024_o0_0_S256x128)⟩,
     ⟨S256x128, head (extractStridedSlice S256x128 ![0, 128] q slices_S256x1024_o0_128_S256x128)
        (extractStridedSlice S256x128 ![0, 128] k slices_S256x1024_o0_128_S256x128)
        (extractStridedSlice S256x128 ![0, 128] v slices_S256x1024_o0_128_S256x128)⟩,
     ⟨S256x128, head (extractStridedSlice S256x128 ![0, 256] q slices_S256x1024_o0_256_S256x128)
        (extractStridedSlice S256x128 ![0, 256] k slices_S256x1024_o0_256_S256x128)
        (extractStridedSlice S256x128 ![0, 256] v slices_S256x1024_o0_256_S256x128)⟩,
     ⟨S256x128, head (extractStridedSlice S256x128 ![0, 384] q slices_S256x1024_o0_384_S256x128)
        (extractStridedSlice S256x128 ![0, 384] k slices_S256x1024_o0_384_S256x128)
        (extractStridedSlice S256x128 ![0, 384] v slices_S256x1024_o0_384_S256x128)⟩,
     ⟨S256x128, head (extractStridedSlice S256x128 ![0, 512] q slices_S256x1024_o0_512_S256x128)
        (extractStridedSlice S256x128 ![0, 512] k slices_S256x1024_o0_512_S256x128)
        (extractStridedSlice S256x128 ![0, 512] v slices_S256x1024_o0_512_S256x128)⟩,
     ⟨S256x128, head (extractStridedSlice S256x128 ![0, 640] q slices_S256x1024_o0_640_S256x128)
        (extractStridedSlice S256x128 ![0, 640] k slices_S256x1024_o0_640_S256x128)
        (extractStridedSlice S256x128 ![0, 640] v slices_S256x1024_o0_640_S256x128)⟩,
     ⟨S256x128, head (extractStridedSlice S256x128 ![0, 768] q slices_S256x1024_o0_768_S256x128)
        (extractStridedSlice S256x128 ![0, 768] k slices_S256x1024_o0_768_S256x128)
        (extractStridedSlice S256x128 ![0, 768] v slices_S256x1024_o0_768_S256x128)⟩,
     ⟨S256x128, head (extractStridedSlice S256x128 ![0, 896] q slices_S256x1024_o0_896_S256x128)
        (extractStridedSlice S256x128 ![0, 896] k slices_S256x1024_o0_896_S256x128)
        (extractStridedSlice S256x128 ![0, 896] v slices_S256x1024_o0_896_S256x128)⟩]
    concatenates_S256x128_S256x128_S256x128_S256x128_S256x128_S256x128_S256x128_S256x128_S256x1024_d1

/-- A device's partial attention of one batch: its eight heads of `x`, through its rows of the output weights. -/
def attn (x : FVec F S256x1024 .bf16) (wq wk wv wo : FVec F S1024x1024 .bf16) : FVec F S256x1024 .f32 :=
  proj (heads
      (truncf .bf16 (mulf (proj x wq) (broadcast S256x1024 (Scalar.ofBits .f32 0x3DB504F3#32))) bitsLt_bf16_f32)
      (truncf .bf16 (proj x wk) bitsLt_bf16_f32) (truncf .bf16 (proj x wv) bitsLt_bf16_f32)) wo

/-- The batch a device holds, as it sends it. -/
def xOf (x : FVec F S1x256x1024 .f32) : FVec F S256x1024 .bf16 :=
  shapeCast S256x1024 (truncf .bf16 (shapeCast S256x1024 x shapeCasts_S1x256x1024_S256x1024) bitsLt_bf16_f32)
    shapeCasts_S256x1024_S256x1024

/-- A weight, as the products read it. -/
def wOf (w : FVec F S1024x1024 .f32) : FVec F S1024x1024 .bf16 :=
  shapeCast S1024x1024 (truncf .bf16 (shapeCast S1024x1024 w shapeCasts_S1024x1024_S1024x1024) bitsLt_bf16_f32)
    shapeCasts_S1024x1024_S1024x1024

/-- A partial sum of another device's, in f32. -/
def wide (v : FVec F S1x1x256x1024 .bf16) : FVec F S256x1024 .f32 :=
  extf .f32 (shapeCast S256x1024 v shapeCasts_S1x1x256x1024_S256x1024) bitsLt_bf16_f32

/-- The running result `o` plus `a`. -/
def accum (o : FVec F S1x256x1024 .f32) (a : FVec F S256x1024 .f32) : FVec F S1x256x1024 .f32 :=
  shapeCast S1x256x1024 (addf (shapeCast S256x1024 o shapeCasts_S1x256x1024_S256x1024) a)
    shapeCasts_S256x1024_S1x256x1024

/-! ## The devices a step addresses, the semaphores and the slots of a buffer -/

def devSig (k : Fin 7) (d0 : Dev nD) : Dev nD := match k with
  | 0 => ⟨k0_dev1 d0, k0_dev1_lt d0⟩ | 1 => ⟨k0_dev2 d0, k0_dev2_lt d0⟩ | 2 => ⟨k0_dev3 d0, k0_dev3_lt d0⟩
  | 3 => ⟨k0_dev4 d0, k0_dev4_lt d0⟩ | 4 => ⟨k0_dev5 d0, k0_dev5_lt d0⟩ | 5 => ⟨k0_dev6 d0, k0_dev6_lt d0⟩
  | 6 => ⟨k0_dev7 d0, k0_dev7_lt d0⟩

def devNear (k : Fin 7) (d0 : Dev nD) : Dev nD := match k with
  | 0 => ⟨k0_dev10 d0, k0_dev10_lt d0⟩ | 1 => ⟨k0_dev11 d0, k0_dev11_lt d0⟩ | 2 => ⟨k0_dev12 d0, k0_dev12_lt d0⟩
  | 3 => ⟨k0_dev13 d0, k0_dev13_lt d0⟩ | 4 => ⟨k0_dev14 d0, k0_dev14_lt d0⟩ | 5 => ⟨k0_dev15 d0, k0_dev15_lt d0⟩
  | 6 => ⟨k0_dev16 d0, k0_dev16_lt d0⟩

def devRelay (k : Fin 7) (d0 : Dev nD) : Dev nD := match k with
  | 0 => ⟨k0_dev17 d0, k0_dev17_lt d0⟩ | 1 => ⟨k0_dev18 d0, k0_dev18_lt d0⟩ | 2 => ⟨k0_dev19 d0, k0_dev19_lt d0⟩
  | 3 => ⟨k0_dev20 d0, k0_dev20_lt d0⟩ | 4 => ⟨k0_dev21 d0, k0_dev21_lt d0⟩ | 5 => ⟨k0_dev22 d0, k0_dev22_lt d0⟩
  | 6 => ⟨k0_dev23 d0, k0_dev23_lt d0⟩

def devBack (k : Fin 7) (d0 : Dev nD) : Dev nD := match k with
  | 0 => ⟨k0_dev24 d0, k0_dev24_lt d0⟩ | 1 => ⟨k0_dev25 d0, k0_dev25_lt d0⟩ | 2 => ⟨k0_dev26 d0, k0_dev26_lt d0⟩
  | 3 => ⟨k0_dev27 d0, k0_dev27_lt d0⟩ | 4 => ⟨k0_dev28 d0, k0_dev28_lt d0⟩ | 5 => ⟨k0_dev29 d0, k0_dev29_lt d0⟩
  | 6 => ⟨k0_dev30 d0, k0_dev30_lt d0⟩

theorem inb1 (k : Fin 7) : ∀ a, (![k.val] : Fin 1 → Nat) a + S1.size a ≤ S7.size a := by
  revert k; decide

theorem inb3 (k : Fin 7) : ∀ a, (![k.val, 0, 0] : Fin 3 → Nat) a + S1x256x1024.size a ≤ S7x256x1024.size a := by
  revert k; decide

theorem inb4 (k : Fin 7) :
    ∀ a, (![k.val, 0, 0, 0] : Fin 4 → Nat) a + S1x2x256x1024.size a ≤ S7x2x256x1024.size a := by
  revert k; decide

theorem inbHalf (k : Fin 7) (i : Fin 2) :
    ∀ a, (![k.val, i.val, 0, 0] : Fin 4 → Nat) a + S1x1x256x1024.size a ≤ S7x2x256x1024.size a := by
  revert k i; decide

theorem words3 (k : Fin 7) :
    (Rect.unit (s := S7x256x1024) ![k.val, 0, 0] S1x256x1024.size (inb3 k)).WholeWords (EltTy.packing .bf16) :=
  match k with
  | 0 => wordsbf16_S7x256x1024_S1x256x1024_0_0_0 | 1 => wordsbf16_S7x256x1024_S1x256x1024_1_0_0
  | 2 => wordsbf16_S7x256x1024_S1x256x1024_2_0_0 | 3 => wordsbf16_S7x256x1024_S1x256x1024_3_0_0
  | 4 => wordsbf16_S7x256x1024_S1x256x1024_4_0_0 | 5 => wordsbf16_S7x256x1024_S1x256x1024_5_0_0
  | 6 => wordsbf16_S7x256x1024_S1x256x1024_6_0_0

theorem words4 (k : Fin 7) :
    (Rect.unit (s := S7x2x256x1024) ![k.val, 0, 0, 0] S1x2x256x1024.size (inb4 k)).WholeWords
      (EltTy.packing .bf16) :=
  match k with
  | 0 => wordsbf16_S7x2x256x1024_S1x2x256x1024_0_0_0_0 | 1 => wordsbf16_S7x2x256x1024_S1x2x256x1024_1_0_0_0
  | 2 => wordsbf16_S7x2x256x1024_S1x2x256x1024_2_0_0_0 | 3 => wordsbf16_S7x2x256x1024_S1x2x256x1024_3_0_0_0
  | 4 => wordsbf16_S7x2x256x1024_S1x2x256x1024_4_0_0_0 | 5 => wordsbf16_S7x2x256x1024_S1x2x256x1024_5_0_0_0
  | 6 => wordsbf16_S7x2x256x1024_S1x2x256x1024_6_0_0_0

theorem packedHalf (k : Fin 7) (i : Fin 2) :
    (Rect.unit (s := S7x2x256x1024) ![k.val, i.val, 0, 0] S1x1x256x1024.size (inbHalf k i)).PackedRows
      (EltTy.packing .bf16) :=
  match k, i with
  | 0, 0 => packedbf16_S7x2x256x1024_S1x1x256x1024_0_0_0_0 | 0, 1 => packedbf16_S7x2x256x1024_S1x1x256x1024_0_1_0_0
  | 1, 0 => packedbf16_S7x2x256x1024_S1x1x256x1024_1_0_0_0 | 1, 1 => packedbf16_S7x2x256x1024_S1x1x256x1024_1_1_0_0
  | 2, 0 => packedbf16_S7x2x256x1024_S1x1x256x1024_2_0_0_0 | 2, 1 => packedbf16_S7x2x256x1024_S1x1x256x1024_2_1_0_0
  | 3, 0 => packedbf16_S7x2x256x1024_S1x1x256x1024_3_0_0_0 | 3, 1 => packedbf16_S7x2x256x1024_S1x1x256x1024_3_1_0_0
  | 4, 0 => packedbf16_S7x2x256x1024_S1x1x256x1024_4_0_0_0 | 4, 1 => packedbf16_S7x2x256x1024_S1x1x256x1024_4_1_0_0
  | 5, 0 => packedbf16_S7x2x256x1024_S1x1x256x1024_5_0_0_0 | 5, 1 => packedbf16_S7x2x256x1024_S1x1x256x1024_5_1_0_0
  | 6, 0 => packedbf16_S7x2x256x1024_S1x1x256x1024_6_0_0_0 | 6, 1 => packedbf16_S7x2x256x1024_S1x1x256x1024_6_1_0_0

/-- Semaphore `k` of an array of seven, and the one of an array of one. -/
abbrev sem7 (a : DmaSems sig S7) (k : Fin 7) : DmaSem sig :=
  ((a.slice (Rect.unit (s := S7) ![k.val] S1.size (inb1 k))).squeeze S_ squeezes_S1_S_).sem

abbrev sem1 (a : DmaSems sig S1) : DmaSem sig :=
  ((a.slice (Rect.unit (s := S1) ![0] S1.size inb_S1_S1_0)).squeeze S_ squeezes_S1_S_).sem

abbrev barrier : Sem sig := (SemArray.scalar (sig.barrier 0 rfl) : Sems sig S_).sem

/-- Slot `k` of a buffer of seven batches; of a buffer of seven pairs of batches; one batch of it. -/
abbrev rect3 (k : Fin 7) : Rect S7x256x1024 := Rect.unit (s := S7x256x1024) ![k.val, 0, 0] S1x256x1024.size (inb3 k)

abbrev rect4 (k : Fin 7) : Rect S7x2x256x1024 :=
  Rect.unit (s := S7x2x256x1024) ![k.val, 0, 0, 0] S1x2x256x1024.size (inb4 k)

abbrev half (k : Fin 7) (i : Fin 2) : Rect S7x2x256x1024 :=
  Rect.unit (s := S7x2x256x1024) ![k.val, i.val, 0, 0] S1x1x256x1024.size (inbHalf k i)

abbrev slot3 (b : Memref sig .tc .vmem S7x256x1024 .bf16) (k : Fin 7) : Memref sig .tc .vmem S256x1024 .bf16 :=
  (b.slice (rect3 k) (fun _ => rfl)).squeeze S256x1024 squeezes_S1x256x1024_S256x1024

abbrev slot4 (b : Memref sig .tc .vmem S7x2x256x1024 .bf16) (k : Fin 7) : Memref sig .tc .vmem S2x256x1024 .bf16 :=
  (b.slice (rect4 k) (fun _ => rfl)).squeeze S2x256x1024 squeezes_S1x2x256x1024_S2x256x1024

theorem word3 {b : Memref sig .tc .vmem S7x256x1024 .bf16} (hb : b.IsWhole) (k : Fin 7) : (slot3 b k).view.WordExact :=
  (hb.wordExact_slice rfl _ (words3 k)).reshape _ _

theorem word4 {b : Memref sig .tc .vmem S7x2x256x1024 .bf16} (hb : b.IsWhole) (k : Fin 7) :
    (slot4 b k).view.WordExact :=
  (hb.wordExact_slice rfl _ (words4 k)).reshape _ _

/-! ## The buffers and semaphore arrays of the call -/

abbrev xRef : Memref sig .tc .vmem S1x256x1024 .f32 := Memref.whole cc0_stg0_0
abbrev wqRef : Memref sig .tc .vmem S1024x1024 .f32 := Memref.whole cc0_stg1_0
abbrev woRef : Memref sig .tc .vmem S1024x1024 .f32 := Memref.whole cc0_stg2_0
abbrev wkRef : Memref sig .tc .vmem S1024x1024 .f32 := Memref.whole cc0_stg3_0
abbrev wvRef : Memref sig .tc .vmem S1024x1024 .f32 := Memref.whole cc0_stg4_0
abbrev outRef : Memref sig .tc .vmem S1x256x1024 .f32 := Memref.whole cc0_stg5_0
abbrev xb : Memref sig .tc .vmem S256x1024 .bf16 := Memref.whole cc0_scratch0
abbrev wqb : Memref sig .tc .vmem S1024x1024 .bf16 := Memref.whole cc0_scratch1
abbrev wkb : Memref sig .tc .vmem S1024x1024 .bf16 := Memref.whole cc0_scratch2
abbrev wvb : Memref sig .tc .vmem S1024x1024 .bf16 := Memref.whole cc0_scratch3
abbrev wob : Memref sig .tc .vmem S1024x1024 .bf16 := Memref.whole cc0_scratch4
abbrev near : Memref sig .tc .vmem S7x256x1024 .bf16 := Memref.whole cc0_scratch5
abbrev far : Memref sig .tc .vmem S7x256x1024 .bf16 := Memref.whole cc0_scratch6
abbrev mir : Memref sig .tc .vmem S256x1024 .bf16 := Memref.whole cc0_scratch7
abbrev stage : Memref sig .tc .vmem S7x2x256x1024 .bf16 := Memref.whole cc0_scratch8
abbrev ownfar : Memref sig .tc .vmem S256x1024 .bf16 := Memref.whole cc0_scratch9
abbrev combo : Memref sig .tc .vmem S7x2x256x1024 .bf16 := Memref.whole cc0_scratch10
abbrev fsum : Memref sig .tc .vmem S256x1024 .bf16 := Memref.whole cc0_scratch11
abbrev pacc : Memref sig .tc .vmem S256x1024 .bf16 := Memref.whole cc0_scratch12

abbrev mirror (c : Dev nD) : Dev nD := ⟨k0_dev8 c, k0_dev8_lt c⟩

/-! ## Loads and stores of whole buffers -/

/-- Programs of the kernel's core over the float values `F`. -/
abbrev Core (F : FTy → Type) [FloatOps F] (α : Type) : Type 1 := Prog (TpuEff nD τ sig (Elt F) Λ₀ .tc) α

abbrev ld3 (r : Memref sig .tc .vmem S1x256x1024 .f32) : Core F (Vec F S1x256x1024 .f32) :=
  Prog.lift (.load r (Rect.unit (s := S1x256x1024) ![0, 0, 0] S1x256x1024.size inb_S1x256x1024_S1x256x1024_0_0_0).toLoadRect
    (View.loadsAt_vmem h_S1x256x1024))

abbrev st3 (r : Memref sig .tc .vmem S1x256x1024 .f32) (v : Vec F S1x256x1024 .f32) : Core F PUnit :=
  Prog.lift (.store r (Rect.unit (s := S1x256x1024) ![0, 0, 0] S1x256x1024.size inb_S1x256x1024_S1x256x1024_0_0_0) v
    Finset.univ (View.stores_vmem_bits_univ h_S1x256x1024 rfl) (.inl rfl))

abbrev ldx (r : Memref sig .tc .vmem S256x1024 .bf16) : Core F (Vec F S256x1024 .bf16) :=
  Prog.lift (.load r (Rect.unit (s := S256x1024) ![0, 0] S256x1024.size inb_S256x1024_S256x1024_0_0).toLoadRect
    (View.loadsAt_vmem h_S256x1024))

abbrev stx (r : Memref sig .tc .vmem S256x1024 .bf16) (hr : r.IsWhole) (v : Vec F S256x1024 .bf16) : Core F PUnit :=
  Prog.lift (.store r (Rect.unit (s := S256x1024) ![0, 0] S256x1024.size inb_S256x1024_S256x1024_0_0) v Finset.univ
    (View.stores_vmem h_S256x1024 (hr.storeExact_slice rfl _ packedbf16_S256x1024_S256x1024_0_0) (fun _ => rfl))
    (.inl rfl))

abbrev ldw {e : EltTy} (r : Memref sig .tc .vmem S1024x1024 e) : Core F (Vec F S1024x1024 e) :=
  Prog.lift (.load r (Rect.unit (s := S1024x1024) ![0, 0] S1024x1024.size inb_S1024x1024_S1024x1024_0_0).toLoadRect
    (View.loadsAt_vmem h_S1024x1024))

abbrev stw (r : Memref sig .tc .vmem S1024x1024 .bf16) (hr : r.IsWhole) (v : Vec F S1024x1024 .bf16) : Core F PUnit :=
  Prog.lift (.store r (Rect.unit (s := S1024x1024) ![0, 0] S1024x1024.size inb_S1024x1024_S1024x1024_0_0) v Finset.univ
    (View.stores_vmem h_S1024x1024 (hr.storeExact_slice rfl _ packedbf16_S1024x1024_S1024x1024_0_0) (fun _ => rfl))
    (.inl rfl))

abbrev ldSlot (b : Memref sig .tc .vmem S7x256x1024 .bf16) (k : Fin 7) : Core F (Vec F S1x256x1024 .bf16) :=
  Prog.lift (.load b (rect3 k).toLoadRect (View.loadsAt_vmem h_S1x256x1024))

abbrev ldHalf (b : Memref sig .tc .vmem S7x2x256x1024 .bf16) (k : Fin 7) (i : Fin 2) : Core F (Vec F S1x1x256x1024 .bf16) :=
  Prog.lift (.load b (half k i).toLoadRect (View.loadsAt_vmem h_S1x1x256x1024))

abbrev stHalf (b : Memref sig .tc .vmem S7x2x256x1024 .bf16) (hb : b.IsWhole) (k : Fin 7) (i : Fin 2)
    (v : Vec F S1x1x256x1024 .bf16) : Core F PUnit :=
  Prog.lift (.store b (half k i) v Finset.univ
    (View.stores_vmem h_S1x1x256x1024 (hb.storeExact_slice rfl _ (packedHalf k i)) (fun _ => rfl)) (.inl rfl))

/-! ## The steps -/

/-- Seven steps in a row, and seven that carry a value. -/
def seven (f : Fin 7 → Core F PUnit) : Core F PUnit := do
  f 0; f 1; f 2; f 3; f 4; f 5; f 6

def seven' {α : Type} (f : Fin 7 → α → Core F α) (a : α) : Core F α := do
  let a ← f 0 a; let a ← f 1 a; let a ← f 2 a; let a ← f 3 a; let a ← f 4 a; let a ← f 5 a; f 6 a

/-- Signal the `k`-th peer: its transfers into this device may start. -/
def signal (c : Dev nD) (k : Fin 7) : Core F PUnit := semSignalWord (devSig k c) barrier 1#32

/-- A buffer loaded, converted and stored: the batch, and the weights. -/
def prepX : Core F PUnit := do
  let x ← ld3 xRef
  let _ ← ldx xb
  stx xb (Memref.isWhole_whole _) (xOf x)

def prepW (r : Memref sig .tc .vmem S1024x1024 .f32) (b : Memref sig .tc .vmem S1024x1024 .bf16) (hb : b.IsWhole) : Core F PUnit := do
  let w ← ldw (e := .f32) r
  let _ ← ldw (e := .bf16) b
  stw b hb (wOf w)

/-- Send the batch to the mirror device; to the `k`-th peer; hand the mirror's batch on to the `k`-th peer. -/
def sendMir (c : Dev nD) : Core F PUnit :=
  Prog.lift (.enqueueDma xb (.remote (Dev.tc (⟨k0_dev9 c, k0_dev9_lt c⟩ : Dev nD)) mir (.dma (sem1 cc0_scratch15)))
    (.dma (sem1 cc0_scratch16)) (Memref.isWhole_whole _).wordExact (Memref.isWhole_whole _).wordExact
    ⟨⟨rfl, Or.inl rfl⟩, trivial⟩)

def sendNear (c : Dev nD) (k : Fin 7) : Core F PUnit :=
  Prog.lift (.enqueueDma xb (.remote (Dev.tc (devNear k c)) (slot3 near k) (.dma (sem7 cc0_scratch13 k)))
    (.dma (sem7 cc0_scratch14 k)) (Memref.isWhole_whole _).wordExact (word3 (Memref.isWhole_whole _) k)
    ⟨⟨rfl, Or.inl rfl⟩, trivial⟩)

def relay (c : Dev nD) (k : Fin 7) : Core F PUnit :=
  Prog.lift (.enqueueDma mir (.remote (Dev.tc (devRelay k c)) (slot3 far k) (.dma (sem7 cc0_scratch17 k)))
    (.dma (sem7 cc0_scratch18 k)) (Memref.isWhole_whole _).wordExact (word3 (Memref.isWhole_whole _) k)
    ⟨⟨rfl, Or.inl rfl⟩, trivial⟩)

/-- The device's attention of its own batch, into the result; of the mirror's batch, kept for its sum. -/
def ownStep : Core F PUnit := do
  let x ← ldx xb
  let wq ← ldw (e := .bf16) wqb
  let wk ← ldw (e := .bf16) wkb
  let wv ← ldw (e := .bf16) wvb
  let wo ← ldw (e := .bf16) wob
  let _ ← ld3 outRef
  st3 outRef (shapeCast S1x256x1024 (attn x wq wk wv wo) shapeCasts_S256x1024_S1x256x1024)

def waitMir : Core F PUnit :=
  Prog.lift (.waitDma2 (sem1 cc0_scratch16) mir mir (Memref.isWhole_whole _).wordExact (Memref.isWhole_whole _).wordExact)

def mirStep : Core F PUnit := do
  let x ← ldx mir
  let wq ← ldw (e := .bf16) wqb
  let wk ← ldw (e := .bf16) wkb
  let wv ← ldw (e := .bf16) wvb
  let wo ← ldw (e := .bf16) wob
  let _ ← ldx ownfar
  stx ownfar (Memref.isWhole_whole _)
    (shapeCast S256x1024 (truncf .bf16 (attn x wq wk wv wo) bitsLt_bf16_f32) shapeCasts_S256x1024_S256x1024)

/-- A batch of the `k`-th peer, received in `b`, attended and put in half `i` of the `k`-th pair. -/
def peerStep (a : DmaSems sig S7) (b : Memref sig .tc .vmem S7x256x1024 .bf16) (hb : b.IsWhole) (i : Fin 2) (k : Fin 7) : Core F PUnit := do
  Prog.lift (.waitDma2 (sem7 a k) (slot3 b k) (slot3 b k) (word3 hb k) (word3 hb k))
  let x ← ldSlot b k
  let wq ← ldw (e := .bf16) wqb
  let wk ← ldw (e := .bf16) wkb
  let wv ← ldw (e := .bf16) wvb
  let wo ← ldw (e := .bf16) wob
  let _ ← ldHalf stage k i
  stHalf stage (Memref.isWhole_whole _) k i
    (shapeCast S1x1x256x1024
      (truncf .bf16 (attn (shapeCast S256x1024 x shapeCasts_S1x256x1024_S256x1024) wq wk wv wo) bitsLt_bf16_f32)
      shapeCasts_S256x1024_S1x1x256x1024)

/-- The pair of partial results goes back to the peer it came from. -/
def sendBack (c : Dev nD) (k : Fin 7) : Core F PUnit :=
  Prog.lift (.enqueueDma (slot4 stage k) (.remote (Dev.tc (devBack k c)) (slot4 combo k) (.dma (sem7 cc0_scratch19 k)))
    (.dma (sem7 cc0_scratch20 k)) (word4 (Memref.isWhole_whole _) k) (word4 (Memref.isWhole_whole _) k)
    ⟨⟨rfl, Or.inl rfl⟩, trivial⟩)

def pairStep (c : Dev nD) (k : Fin 7) : Core F PUnit := do
  peerStep cc0_scratch14 near (Memref.isWhole_whole _) 0 k
  peerStep cc0_scratch18 far (Memref.isWhole_whole _) 1 k
  sendBack c k

/-- The group's sum for the mirror device: the `k`-th peer's term of it. -/
def sumStep (k : Fin 7) (a : FVec F S256x1024 .f32) : Core F (FVec F S256x1024 .f32) := do
  Prog.lift (.waitDma2 (sem7 cc0_scratch20 k) (slot4 combo k) (slot4 combo k) (word4 (Memref.isWhole_whole _) k)
    (word4 (Memref.isWhole_whole _) k))
  let v ← ldHalf combo k 1
  pure (addf a (wide v))

def sumAll : Core F PUnit := do
  let v ← ldx ownfar
  let a ← seven' sumStep (extf .f32 v bitsLt_bf16_f32)
  let _ ← ldx fsum
  stx fsum (Memref.isWhole_whole _) (shapeCast S256x1024 (truncf .bf16 a bitsLt_bf16_f32) shapeCasts_S256x1024_S256x1024)

def sendSum (c : Dev nD) : Core F PUnit :=
  Prog.lift (.enqueueDma fsum (.remote (Dev.tc (⟨k0_dev31 c, k0_dev31_lt c⟩ : Dev nD)) pacc (.dma (sem1 cc0_scratch21)))
    (.dma (sem1 cc0_scratch22)) (Memref.isWhole_whole _).wordExact (Memref.isWhole_whole _).wordExact
    ⟨⟨rfl, Or.inl rfl⟩, trivial⟩)

/-- The result plus the `k`-th peer's partial of the device's own batch; plus the mirror group's sum. -/
def accStep (k : Fin 7) : Core F PUnit := do
  let o ← ld3 outRef
  let v ← ldHalf combo k 0
  let _ ← ld3 outRef
  st3 outRef (accum o (wide v))

def waitSum : Core F PUnit :=
  Prog.lift (.waitDma2 (sem1 cc0_scratch22) pacc pacc (Memref.isWhole_whole _).wordExact (Memref.isWhole_whole _).wordExact)

def accSum : Core F PUnit := do
  let o ← ld3 outRef
  let v ← ldx pacc
  let _ ← ld3 outRef
  st3 outRef (accum o (extf .f32 v bitsLt_bf16_f32))

/-- The sends drained. -/
def drainMir : Core F PUnit :=
  Prog.lift (.waitDma2 (sem1 cc0_scratch15) mir xb (Memref.isWhole_whole _).wordExact (Memref.isWhole_whole _).wordExact)

def drain3 (a : DmaSems sig S7) (b : Memref sig .tc .vmem S7x256x1024 .bf16) (hb : b.IsWhole)
    (s : Memref sig .tc .vmem S256x1024 .bf16) (hs : s.IsWhole) (k : Fin 7) : Core F PUnit :=
  Prog.lift (.waitDma2 (sem7 a k) (slot3 b k) s (word3 hb k) hs.wordExact)

def drain4 (k : Fin 7) : Core F PUnit :=
  Prog.lift (.waitDma2 (sem7 cc0_scratch19 k) (slot4 combo k) (slot4 stage k) (word4 (Memref.isWhole_whole _) k)
    (word4 (Memref.isWhole_whole _) k))

def drainSum : Core F PUnit :=
  Prog.lift (.waitDma2 (sem1 cc0_scratch21) pacc fsum (Memref.isWhole_whole _).wordExact (Memref.isWhole_whole _).wordExact)

/-- The whole body. -/
def body : Core F PUnit := do
  let c ← Prog.lift .deviceId
  seven (signal c)
  semSignalWord (mirror c) barrier 1#32
  semWaitWord barrier 8#32
  prepX
  sendMir c
  seven (sendNear c)
  prepW wqRef wqb (Memref.isWhole_whole _)
  prepW wkRef wkb (Memref.isWhole_whole _)
  prepW wvRef wvb (Memref.isWhole_whole _)
  prepW woRef wob (Memref.isWhole_whole _)
  ownStep
  waitMir
  seven (relay c)
  mirStep
  seven (pairStep c)
  sumAll
  sendSum c
  seven accStep
  waitSum
  accSum
  drainMir
  seven (drain3 cc0_scratch13 near (Memref.isWhole_whole _) xb (Memref.isWhole_whole _))
  seven (drain3 cc0_scratch17 far (Memref.isWhole_whole _) mir (Memref.isWhole_whole _))
  seven drain4
  drainSum

end Cert.Heads
-- ==== Proof.Protocol.lean ====
/-
# The protocol between the sixteen devices

The devices form two groups of eight; device `c` has seven peers `fwd k c` in its group, `k` steps further round, and
one mirror in the other group. Every device computes its heads' share of the attention of all sixteen batches:
its own, its mirror's, and for each peer the peer's and the batch the peer's mirror passed on to it.

The semaphores' duties, one round each:

* the barrier semaphore of `e`, eight units: one from each peer and one from the mirror, each handing `e` the
  places in the sender's memory that `e` copies into;
* `rxMir`, `rxNear k`, `rxFar k`: a batch has arrived (the mirror's, the `k`-th preceding peer's, and that one's mirror's);
* `rpComb k`: peer `fwd k c` has returned its share of the attention of `c`'s batch and of `c`'s mirror's;
* `rpFs`: the mirror group's sum of the shares of `c`'s batch has arrived;
* `sxMir`, `sxNear k`, `sRelay k`, `spComb k`, `spFs`: a copy of `c`'s own has been read out, and its source is
  returned.

The levels order the waits: barrier, batches, relayed batches, returned shares, sums.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The devices -/

/-- The peer `k + 1` places further round the group of eight; the index from which the way back is counted. -/
def fwd (k : Fin 7) (c : Dev nD) : Dev nD :=
  ⟨c.val / 8 * 8 + (c.val % 8 + k.val + 1) % 8, by have := c.isLt; simp only [nD] at *; omega⟩
abbrev rev (k : Fin 7) : Fin 7 := k.rev

theorem devSig_eq (k : Fin 7) (c : Dev nD) : devSig k c = fwd k c := by revert k c; decide +kernel
theorem devNear_eq (k : Fin 7) (c : Dev nD) : devNear k c = fwd k c := by revert k c; decide +kernel
theorem devRelay_eq (k : Fin 7) (c : Dev nD) : devRelay k c = fwd k c := by revert k c; decide +kernel
theorem devBack_eq (k : Fin 7) (c : Dev nD) : devBack k c = fwd (rev k) c := by revert k c; decide +kernel
theorem dev9_eq (c : Dev nD) : (⟨k0_dev9 c, k0_dev9_lt c⟩ : Dev nD) = mirror c := by revert c; decide +kernel
theorem dev31_eq (c : Dev nD) : (⟨k0_dev31 c, k0_dev31_lt c⟩ : Dev nD) = mirror c := by revert c; decide +kernel
theorem fwd_rev_fwd (k : Fin 7) (c : Dev nD) : fwd (rev k) (fwd k c) = c := by revert k c; decide +kernel
theorem fwd_fwd_rev (k : Fin 7) (c : Dev nD) : fwd k (fwd (rev k) c) = c := by revert k c; decide +kernel
theorem mirror_mirror (c : Dev nD) : mirror (mirror c) = c := by revert c; decide +kernel
theorem mirror_fwd (k : Fin 7) (c : Dev nD) : mirror (fwd k c) = fwd k (mirror c) := by revert k c; decide +kernel

/-! ## The semaphores -/

inductive Cell where
  | bar | sxMir | rxMir | spFs | rpFs
  | sxNear (k : Fin 7) | rxNear (k : Fin 7) | sRelay (k : Fin 7) | rxFar (k : Fin 7) | spComb (k : Fin 7)
  | rpComb (k : Fin 7)
  deriving DecidableEq

namespace Cell

/-- The cells, singles and families of seven. -/
def equiv : Cell ≃ Fin 5 ⊕ (Fin 6 × Fin 7) where
  toFun
    | bar => .inl 0 | sxMir => .inl 1 | rxMir => .inl 2 | spFs => .inl 3 | rpFs => .inl 4
    | sxNear k => .inr (0, k) | rxNear k => .inr (1, k) | sRelay k => .inr (2, k) | rxFar k => .inr (3, k)
    | spComb k => .inr (4, k) | rpComb k => .inr (5, k)
  invFun
    | .inl 0 => bar | .inl 1 => sxMir | .inl 2 => rxMir | .inl 3 => spFs | .inl 4 => rpFs
    | .inr (0, k) => sxNear k | .inr (1, k) => rxNear k | .inr (2, k) => sRelay k | .inr (3, k) => rxFar k
    | .inr (4, k) => spComb k | .inr (5, k) => rpComb k
  left_inv x := by cases x <;> rfl
  right_inv x := by
    rcases x with i | ⟨f, k⟩
    · fin_cases i <;> rfl
    · fin_cases f <;> rfl

instance : Fintype Cell := Fintype.ofEquiv _ equiv.symm

/-- The semaphore of a cell. -/
def sem : Cell → SemLoc sig
  | bar => .reg barrier
  | sxMir => .dma (sem1 cc0_scratch15) | rxMir => .dma (sem1 cc0_scratch16)
  | spFs => .dma (sem1 cc0_scratch21) | rpFs => .dma (sem1 cc0_scratch22)
  | sxNear k => .dma (sem7 cc0_scratch13 k) | rxNear k => .dma (sem7 cc0_scratch14 k)
  | sRelay k => .dma (sem7 cc0_scratch17 k) | rxFar k => .dma (sem7 cc0_scratch18 k)
  | spComb k => .dma (sem7 cc0_scratch19 k) | rpComb k => .dma (sem7 cc0_scratch20 k)

theorem sem_injective : Function.Injective sem := by
  have h : ∀ x y : Cell, sem x = sem y → x = y := by decide +kernel
  exact fun x y => h x y

/-- The cell of a semaphore, if it is one of these. -/
def ofSem : SemLoc sig → Option Cell := Function.partialInv sem

theorem ofSem_sem (x : Cell) : ofSem x.sem = some x := Function.partialInv_left sem_injective x

end Cell

open Cell

abbrev cell (c : Dev nD) (x : Cell) : GSem nD τ sig := ((c : Thread nD τ), x.sem)

theorem cell_inj {c d : Dev nD} {x y : Cell} (h : cell c x = cell d y) : c = d ∧ x = y :=
  ⟨congrArg (fun g : GSem nD τ sig => g.1.1) h, sem_injective (congrArg Prod.snd h)⟩

/-- The credit of a batch, and of a pair of batches. -/
abbrev N1 : ℕ := xb.view.dmaCredit
abbrev N2 : ℕ := (slot4 stage 0).view.dmaCredit
theorem N1_pos : 0 < N1 := View.dmaCredit_pos _ (by decide)
theorem N2_pos : 0 < N2 := View.dmaCredit_pos _ (by decide)

/-- The units of a cell's one round, per duty; its duties; its level. A cell of a copy read out is `own`: its owner pays it. -/
def amt : Cell → ℕ
  | bar => 1
  | spComb _ | rpComb _ => N2
  | _ => N1
abbrev Duty : Type := Option (Fin 7)
def dutiesOf : Cell → Finset Duty
  | bar => Finset.univ
  | _ => {none}
def lvl : Cell → ℕ
  | bar => 1 | rxMir | rxNear _ => 2 | rxFar _ => 3 | rpComb _ => 4 | rpFs => 5 | _ => 0
def own : Cell → Bool
  | sxMir | sxNear _ | sRelay _ | spComb _ | spFs => true
  | _ => false

theorem amt_pos (x : Cell) : 0 < amt x := match x with
  | bar => Nat.one_pos
  | spComb _ | rpComb _ => N2_pos
  | sxMir | rxMir | spFs | rpFs | sxNear _ | rxNear _ | sRelay _ | rxFar _ => N1_pos

/-- The device a duty's payer pays: device `c` pays duty `d` of cell `x` of device `route x d c`. -/
def route (x : Cell) (d : Duty) (c : Dev nD) : Dev nD := match x, d with
  | bar, some k => fwd k c
  | bar, none | rxMir, _ | rpFs, _ => mirror c
  | rxNear k, _ | rxFar k, _ => fwd k c
  | rpComb k, _ => fwd (rev k) c
  | _, _ => c
/-- The payer of a duty. -/
def payer (x : Cell) (d : Duty) (c : Dev nD) : Dev nD := match x, d with
  | bar, some k => fwd (rev k) c
  | bar, none | rxMir, _ | rpFs, _ => mirror c
  | rxNear k, _ | rxFar k, _ => fwd (rev k) c
  | rpComb k, _ => fwd k c
  | _, _ => c

theorem payer_route (x : Cell) (d : Duty) (c : Dev nD) : payer x d (route x d c) = c := match x, d with
  | bar, some k => fwd_rev_fwd k c
  | bar, none | rxMir, _ | rpFs, _ => mirror_mirror c
  | rxNear k, _ | rxFar k, _ => fwd_rev_fwd k c
  | rpComb k, _ => fwd_fwd_rev k c
  | sxMir, _ | spFs, _ | sxNear _, _ | sRelay _, _ | spComb _, _ => rfl
theorem route_payer (x : Cell) (d : Duty) (c : Dev nD) : route x d (payer x d c) = c := match x, d with
  | bar, some k => fwd_fwd_rev k c
  | bar, none | rxMir, _ | rpFs, _ => mirror_mirror c
  | rxNear k, _ | rxFar k, _ => fwd_fwd_rev k c
  | rpComb k, _ => fwd_rev_fwd k c
  | sxMir, _ | spFs, _ | sxNear _, _ | sRelay _, _ | spComb _, _ => rfl

def routeEquiv (x : Cell) (d : Duty) : Dev nD ≃ Dev nD := ⟨route x d, payer x d, payer_route x d, route_payer x d⟩

/-! ## The resource algebra -/

abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The contents -/

section Contents

variable (m : (ℓ : Loc nD τ sig) → Buf (Elt F) ℓ)

/-- The staged inputs of a device: its batch and its slices of the four weights. -/
def xIn (c : Dev nD) : FVec F S1x256x1024 .f32 :=
  (win0_0.blk (0 : Fin 1)).view.read (Elt F) (m ((c : Thread nD τ).loc main_arg0))
def wqIn (c : Dev nD) : FVec F S1024x1024 .f32 :=
  (win0_1.blk (0 : Fin 1)).view.read (Elt F) (m ((c : Thread nD τ).loc main_arg1))
def wkIn (c : Dev nD) : FVec F S1024x1024 .f32 :=
  (win0_3.blk (0 : Fin 1)).view.read (Elt F) (m ((c : Thread nD τ).loc main_arg2))
def wvIn (c : Dev nD) : FVec F S1024x1024 .f32 :=
  (win0_4.blk (0 : Fin 1)).view.read (Elt F) (m ((c : Thread nD τ).loc main_arg3))
def woIn (c : Dev nD) : FVec F S1024x1024 .f32 :=
  (win0_2.blk (0 : Fin 1)).view.read (Elt F) (m ((c : Thread nD τ).loc main_arg4))

def X (c : Dev nD) : FVec F S256x1024 .bf16 := xOf (xIn m c)
def WQ (c : Dev nD) : FVec F S1024x1024 .bf16 := wOf (wqIn m c)
def WK (c : Dev nD) : FVec F S1024x1024 .bf16 := wOf (wkIn m c)
def WV (c : Dev nD) : FVec F S1024x1024 .bf16 := wOf (wvIn m c)
def WO (c : Dev nD) : FVec F S1024x1024 .bf16 := wOf (woIn m c)

/-- Device `d`'s share of the attention of device `e`'s batch. -/
def share (d e : Dev nD) : FVec F S256x1024 .f32 := attn (X m e) (WQ m d) (WK m d) (WV m d) (WO m d)

/-- A share as it is put in half of a pair, and as it is kept for the sum. -/
def shareHalf (d e : Dev nD) : FVec F S1x1x256x1024 .bf16 :=
  shapeCast S1x1x256x1024 (truncf .bf16 (share m d e) bitsLt_bf16_f32) shapeCasts_S256x1024_S1x1x256x1024
def shareKept (d e : Dev nD) : FVec F S256x1024 .bf16 :=
  shapeCast S256x1024 (truncf .bf16 (share m d e) bitsLt_bf16_f32) shapeCasts_S256x1024_S256x1024

/-- The sum of the group of `c`'s shares of `c`'s mirror's batch, the first `n` peers' so far. -/
def sumTo (c : Dev nD) : ℕ → FVec F S256x1024 .f32
  | 0 => extf .f32 (shareKept m c (mirror c)) bitsLt_bf16_f32
  | n + 1 => if h : n < 7 then addf (sumTo c n) (wide (shareHalf m (fwd ⟨n, h⟩ c) (mirror c))) else sumTo c n
def sumOf (c : Dev nD) : FVec F S256x1024 .bf16 :=
  shapeCast S256x1024 (truncf .bf16 (sumTo m c 7) bitsLt_bf16_f32) shapeCasts_S256x1024_S256x1024

/-- The result, the first `n` peers' shares added so far; the whole of it. -/
def outTo (c : Dev nD) : ℕ → FVec F S1x256x1024 .f32
  | 0 => shapeCast S1x256x1024 (share m c c) shapeCasts_S256x1024_S1x256x1024
  | n + 1 => if h : n < 7 then accum (outTo c n) (wide (shareHalf m (fwd ⟨n, h⟩ c) c)) else outTo c n
def outAt (c : Dev nD) : FVec F S1x256x1024 .f32 :=
  accum (outTo m c 7) (extf .f32 (sumOf m (mirror c)) bitsLt_bf16_f32)

theorem sumTo_succ (c : Dev nD) (k : Fin 7) :
    sumTo m c (k.val + 1) = addf (sumTo m c k.val) (wide (shareHalf m (fwd k c) (mirror c))) := by
  show dite _ _ _ = _; rw [dif_pos k.isLt]
theorem outTo_succ (c : Dev nD) (k : Fin 7) :
    outTo m c (k.val + 1) = accum (outTo m c k.val) (wide (shareHalf m (fwd k c) c)) := by
  show dite _ _ _ = _; rw [dif_pos k.isLt]

end Contents

/-! ## What the memory holds -/

/-- The shares of a buffer lent `n` times over: the `n`-th loan, and what remains after `n` loans. -/
def rest : ℕ → PosShare TreeShare
  | 0 => fullShare
  | n + 1 => (rest n).right
def loan (n : ℕ) : PosShare TreeShare := (rest n).left

/-- A memref's elements at a share, reading `V`; at anything. -/
def holds (c : Dev nD) {s : Shape} {e : EltTy} (r : Memref sig .tc .vmem s e) (q : PosShare TreeShare) (V : s.Idx → Elt F e) : sProp 𝕄 :=
  iprop(∃ f, ⌜r.view.read (Elt F) f = V⌝ ∗ (r.view.loc (c : Thread nD τ) ↦[r.view.set]{q} f))
def free (c : Dev nD) {s : Shape} {e : EltTy} (r : Memref sig .tc .vmem s e) : sProp 𝕄 :=
  iprop(∃ f, r.view.loc (c : Thread nD τ) ↦[r.view.set]{fullShare} f)
/-- Pair `k` of a buffer of pairs, its halves reading `A` and `B`. -/
def pair (c : Dev nD) (b : Memref sig .tc .vmem S7x2x256x1024 .bf16) (k : Fin 7) (A B : FVec F S1x1x256x1024 .bf16) : sProp 𝕄 :=
  iprop(∃ f, ⌜b.view.readAt (Elt F) (half k 0).toLoadRect f = A ∧ b.view.readAt (Elt F) (half k 1).toLoadRect f = B⌝
    ∗ ((slot4 b k).view.loc (c : Thread nD τ) ↦[(slot4 b k).view.set]{fullShare} f))

instance holds_storable (c : Dev nD) {s : Shape} {e : EltTy} (r : Memref sig .tc .vmem s e) (q) (V : s.Idx → Elt F e) :
    BI.Storable (upEmb : UEmb _ 𝕄) (holds c r q V) := by unfold holds; infer_instance
instance free_storable (c : Dev nD) {s : Shape} {e : EltTy} (r : Memref sig .tc .vmem s e) :
    BI.Storable (upEmb : UEmb _ 𝕄) (free (F := F) c r) := by unfold free; infer_instance
instance pair_storable (c : Dev nD) (b : Memref sig .tc .vmem S7x2x256x1024 .bf16) (k) (A B : FVec F S1x1x256x1024 .bf16) :
    BI.Storable (upEmb : UEmb _ 𝕄) (pair c b k A B) := by unfold pair; infer_instance

/-! ## The schedule -/

section Schedule

variable (m : (ℓ : Loc nD τ sig) → Buf (Elt F) ℓ)

/-- What a duty hands the cell's owner `c`. -/
def pay (c : Dev nD) (x : Cell) (d : Duty) : sProp 𝕄 := match x with
  | bar => match d with
    | some k => iprop(free (F := F) (fwd (rev k) c) (slot3 near (rev k)) ∗ free (F := F) (fwd (rev k) c) (slot3 far (rev k))
        ∗ free (F := F) (fwd (rev k) c) (slot4 combo k))
    | none => iprop(free (F := F) (mirror c) mir ∗ free (F := F) (mirror c) pacc)
  | rxMir => holds c mir fullShare (X m (mirror c))
  | rxNear k => holds c (slot3 near k) fullShare (X m (fwd (rev k) c))
  | rxFar k => holds c (slot3 far k) fullShare (X m (mirror (fwd (rev k) c)))
  | rpComb k => pair c combo k (shareHalf m (fwd k c) c) (shareHalf m (fwd k c) (mirror c))
  | rpFs => holds c pacc fullShare (sumOf m (mirror c))
  | sxMir => holds c xb (loan 7) (X m c)
  | sxNear k => holds c xb (loan k.val) (X m c)
  | sRelay k => holds c mir (loan k.val) (X m (mirror c))
  | spComb k => free (F := F) c (slot4 stage k)
  | spFs => free (F := F) c fsum

instance pay_storable (c : Dev nD) (x : Cell) (d : Duty) : BI.Storable (upEmb : UEmb _ 𝕄) (pay m c x d) := by
  unfold pay
  cases x
  case bar => cases d <;> infer_instance
  all_goals infer_instance

def Rd : Rounds.Schedule (GSem nD τ sig) Duty 𝕄 where
  duties g r := if r = 0 ∧ g.1.2 = .tc then (match ofSem g.2 with | some x => dutiesOf x | none => ∅) else ∅
  unitless _ := False
  amount g _ _ := match ofSem g.2 with | some x => amt x | none => 1
  payload g _ d := match ofSem g.2 with | some x => pay m g.1.1 x d | none => iprop(emp)
  amount_pos g _ _ _ := by
    split
    · exact amt_pos _
    · exact Nat.one_pos

instance Rd_storable (g : GSem nD τ sig) (r : ℕ) (d : Duty) : BI.Storable (upEmb : UEmb _ 𝕄) ((Rd m).payload g r d) := by
  dsimp only [Rd]
  split <;> infer_instance

theorem duties_eq (c : Dev nD) (x : Cell) : (Rd m).duties (cell c x) 0 = dutiesOf x := by
  dsimp only [Rd]; rw [if_pos ⟨rfl, rfl⟩, ofSem_sem]
theorem duties_later (g : GSem nD τ sig) : ∀ r, 1 ≤ r → (Rd m).duties g r = ∅ :=
  fun r hr => by dsimp only [Rd]; rw [if_neg fun h => by omega]
theorem amount_eq (c : Dev nD) (x : Cell) (d : Duty) : (Rd m).amount (cell c x) 0 d = amt x := by
  dsimp only [Rd]; rw [ofSem_sem]
theorem payload_eq (c : Dev nD) (x : Cell) (d : Duty) : (Rd m).payload (cell c x) 0 d = pay m c x d := by
  dsimp only [Rd]; rw [ofSem_sem]

/-- The units a cell's round brings. -/
def units (x : Cell) : ℕ := (dutiesOf x).card * amt x

theorem expect_eq (c : Dev nD) (x : Cell) : (Rd m).expect (cell c x) 0 = units x := by
  unfold Schedule.expect Schedule.amountOf units
  rw [duties_eq, Finset.sum_congr rfl fun d _ => amount_eq m c x d, Finset.sum_const, smul_eq_mul]

theorem rest_eq (c : Dev nD) (x : Cell) :
    bigSep ((Rd m).duties (cell c x) 0 \ ∅) (fun d => (Rd m).payload (cell c x) 0 d) = bigSep (dutiesOf x) (pay m c x) := by
  rw [Finset.sdiff_empty, duties_eq]
  exact bigSep_congr fun d _ => payload_eq m c x d

end Schedule

/-! ## What a device owes, and the levels -/

/-- What `c` owes on a cell `x` at launch: each duty it pays there. -/
def owedOn (c : Dev nD) (x : Cell) : CellTallies nD τ sig Unit :=
  ∑ d ∈ dutiesOf x, tallyAt (cell (route x d c) x) () (amt x)

/-- The steps `j` and later of a family's dues. -/
def due (t : Fin 7 → CellTallies nD τ sig Unit) (j : ℕ) : CellTallies nD τ sig Unit :=
  ∑ k : Fin 7, if j ≤ k.val then t k else 0

theorem due_step (t : Fin 7 → CellTallies nD τ sig Unit) (k : Fin 7) : due t k.val = due t (k.val + 1) + t k := by
  unfold due
  rw [← Finset.add_sum_erase _ _ (Finset.mem_univ k), ← Finset.add_sum_erase (f := fun k' : Fin 7 => if k.val + 1 ≤ k'.val then t k' else 0) _ (Finset.mem_univ k),
    if_pos le_rfl, if_neg (by omega), zero_add, add_comm]
  congr 1
  refine Finset.sum_congr rfl fun j hj => ?_
  have hne : j.val ≠ k.val := fun h => (Finset.mem_erase.mp hj).1 (Fin.ext h)
  exact if_congr ⟨fun h => by omega, fun h => by omega⟩ rfl rfl

theorem due_done (t : Fin 7 → CellTallies nD τ sig Unit) : due t 7 = 0 :=
  Finset.sum_eq_zero fun k _ => if_neg (by have := k.isLt; omega)
theorem due_zero (t : Fin 7 → CellTallies nD τ sig Unit) : due t 0 = ∑ k, t k :=
  Finset.sum_congr rfl fun k _ => if_pos (Nat.zero_le _)

/-- Every cell of the tally is of level above `n`. -/
def Above (n : ℕ) (O : CellTallies nD τ sig Unit) : Prop := ∀ g u, 0 < O g u → ∃ c x, g = cell c x ∧ n < lvl x

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_at {n : ℕ} (c : Dev nD) (x : Cell) (a : ℕ) (h : n < lvl x) : Above n (tallyAt (cell c x) () a) := fun g u hg => by
  rw [tallyAt_apply] at hg
  by_cases h' : g = cell c x ∧ u = ()
  · exact ⟨c, x, h'.1, h⟩
  · rw [if_neg h'] at hg; exact absurd hg (Nat.lt_irrefl 0)
theorem above_sum {n : ℕ} {I : Type} (s : Finset I) (t : I → CellTallies nD τ sig Unit) (h : ∀ i ∈ s, Above n (t i)) : Above n (∑ i ∈ s, t i) := by
  classical
  induction s using Finset.induction_on with
  | empty => rw [Finset.sum_empty]; exact above_zero n
  | insert i s hi ih =>
    rw [Finset.sum_insert hi]
    exact above_add (h i (Finset.mem_insert_self i s)) (ih fun j hj => h j (Finset.mem_insert_of_mem hj))
theorem above_due {n : ℕ} (t : Fin 7 → CellTallies nD τ sig Unit) (j : ℕ) (h : ∀ k, Above n (t k)) : Above n (due t j) :=
  above_sum _ _ fun k _ => by split; exacts [h k, above_zero n]

def L (g : GSem nD τ sig) : Finset Unit := if g.1.2 = .tc then {()} else ∅
def lv (g : GSem nD τ sig) (_ : Unit) : ℕ := match ofSem g.2 with | some x => lvl x | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) (u : Unit) : lv (cell c x) u = lvl x := by unfold lv; rw [ofSem_sem]

/-- A device may wait on a semaphore whose level is below every cell it still owes. -/
theorem mayWait_of_above (c : Dev nD) (sm : SemLoc sig) (n : ℕ) (hn : lv ((c : Thread nD τ), sm) () ≤ n)
    {O : CellTallies nD τ sig Unit} (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, x, rfl, _⟩ := hO g u hg; exact Finset.mem_singleton_self _)
    (fun p hp => by rw [Finset.mem_singleton.mp hp]; exact hn)
    (fun g u hg => by obtain ⟨d, x, rfl, h⟩ := hO g u hg; rw [lv_cell]; exact h)

end Cert.Heads

end
-- ==== Proof.Memory.lean ====
/-
# The memory of the body: loads, stores, slots and loans

A buffer is held as `holds c r q V` (share `q`, reading `V`), `free c r` (whole, at anything) or, for a pair of
shares, `pair`. Loads and stores of a whole buffer and of a slot are stated on these; a buffer of seven slots is its slots;
a buffer lent to seven copies is seven loans and the rest.
-/
module

public import proofs.«01_k».proof.Proof.Protocol
public import Idealize.ShloMosaic.Lib.Ring

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of the body on device `c`. -/
abbrev WP (c : Dev nD) {α : Type} (p : Core F α) (Q : α → sProp 𝕄) : sProp 𝕄 :=
  wp frame (wpE (defs₀ (F := F)) 𝒱₀ (c : Thread nD τ) none) Set.univ p Q

/-! ## Sequences -/

theorem WP_bind (c : Dev nD) {α β : Type} (p : Core F α) (k : α → Core F β) (Q : β → sProp 𝕄) :
    WP c (p >>= k) Q = WP c p fun a => WP c (k a) Q := wp_bind frame _ Set.univ p k Q

theorem WP_wand (c : Dev nD) {α : Type} (p : Core F α) (Q Q' : α → sProp 𝕄) :
    WP c p Q ⊢ iprop((∀ a, Q a -∗ Q' a) -∗ WP c p Q') := wp_wand frame _ Set.univ

theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Seven steps that carry a value, each with resources of its own (`R k` to `S k`) and a state `I` they pass on. -/
theorem WP_seven' (c : Dev nD) {α : Type} (f : Fin 7 → α → Core F α) {P : sProp 𝕄} [BI.Persistent P]
    {R S : Fin 7 → sProp 𝕄} {I : ℕ → α → sProp 𝕄}
    (h : ∀ k a, iprop(P ∗ R k ∗ I k.val a) ⊢ WP c (f k a) fun a' => iprop(S k ∗ I (k.val + 1) a')) (a : α) :
    iprop(P ∗ bigSep Finset.univ R ∗ I 0 a) ⊢ WP c (seven' f a) fun a' => iprop(bigSep Finset.univ S ∗ I 7 a') := by
  unfold seven'
  rw [bigSep_seven R, bigSep_seven S]
  simp only [WP_bind]
  have step : ∀ (k : Fin 7) (n n' : ℕ) (a : α) (Q : α → sProp 𝕄), n = k.val → n' = k.val + 1 →
      iprop(P ∗ R k ∗ I n a) ⊢ iprop((∀ a', iprop(S k ∗ I n' a') -∗ Q a') -∗ WP c (f k a) Q) := by
    rintro k n n' a Q rfl rfl
    iintro H Hk
    iapply (WP_wand c (f k a) _ _) $$ [H]
    · iapply (h k a); iexact H
    iexact Hk
  iintro ⟨#HP, ⟨R0, R1, R2, R3, R4, R5, R6⟩, HI⟩
  iapply (step 0 0 1 a _ rfl rfl) $$ [R0 HI]
  · isplitr; · iexact HP
    isplitl [R0]; · iexact R0
    iexact HI
  iintro %a1 ⟨S0, HI⟩
  iapply (step 1 1 2 a1 _ rfl rfl) $$ [R1 HI]
  · isplitr; · iexact HP
    isplitl [R1]; · iexact R1
    iexact HI
  iintro %a2 ⟨S1, HI⟩
  iapply (step 2 2 3 a2 _ rfl rfl) $$ [R2 HI]
  · isplitr; · iexact HP
    isplitl [R2]; · iexact R2
    iexact HI
  iintro %a3 ⟨S2, HI⟩
  iapply (step 3 3 4 a3 _ rfl rfl) $$ [R3 HI]
  · isplitr; · iexact HP
    isplitl [R3]; · iexact R3
    iexact HI
  iintro %a4 ⟨S3, HI⟩
  iapply (step 4 4 5 a4 _ rfl rfl) $$ [R4 HI]
  · isplitr; · iexact HP
    isplitl [R4]; · iexact R4
    iexact HI
  iintro %a5 ⟨S4, HI⟩
  iapply (step 5 5 6 a5 _ rfl rfl) $$ [R5 HI]
  · isplitr; · iexact HP
    isplitl [R5]; · iexact R5
    iexact HI
  iintro %a6 ⟨S5, HI⟩
  iapply (step 6 6 7 a6 _ rfl rfl) $$ [R6 HI]
  · isplitr; · iexact HP
    isplitl [R6]; · iexact R6
    iexact HI
  iintro %a7 ⟨S6, HI⟩
  isplitr [HI]
  · isplitl [S0]; · iexact S0
    isplitl [S1]; · iexact S1
    isplitl [S2]; · iexact S2
    isplitl [S3]; · iexact S3
    isplitl [S4]; · iexact S4
    isplitl [S5]; · iexact S5
    iexact S6
  · iexact HI

theorem seven_mono {Φ Ψ : Fin 7 → sProp 𝕄} (h : ∀ k, Φ k ⊢ Ψ k) : bigSep Finset.univ Φ ⊢ bigSep Finset.univ Ψ :=
  Idealize.SL.BI.bigSep_mono fun k _ => h k

theorem seven_eq (f : Fin 7 → Core F PUnit) : seven f = seven' (fun k _ => f k) ⟨⟩ := rfl

/-- The same without a value. -/
theorem WP_seven (c : Dev nD) (f : Fin 7 → Core F PUnit) {P : sProp 𝕄} [BI.Persistent P] {R S : Fin 7 → sProp 𝕄}
    {I : ℕ → sProp 𝕄} (h : ∀ k, iprop(P ∗ R k ∗ I k.val) ⊢ WP c (f k) fun _ => iprop(S k ∗ I (k.val + 1))) :
    iprop(P ∗ bigSep Finset.univ R ∗ I 0) ⊢ WP c (seven f) fun _ => iprop(bigSep Finset.univ S ∗ I 7) := by
  rw [seven_eq]
  exact WP_seven' c (fun k _ => f k) (I := fun n _ => I n) (fun k _ => h k) ⟨⟩

/-! ## Whole buffers -/

theorem emb_zero {s : Shape} {off : Fin s.rank → Nat} (h : off = fun _ => 0) (inb : ∀ a, off a + s.size a ≤ s.size a) (x : s.Idx) :
    (Rect.unit off s.size inb).emb x = x := by
  subst h; exact Rect.emb_whole_apply s x

theorem readAt_zero {s : Shape} {e : EltTy} (v : View sig .tc .vmem s e) {off : Fin s.rank → Nat} (h : off = fun _ => 0)
    (inb : ∀ a, off a + s.size a ≤ s.size a) (f : v.ty.Contents (Elt F)) :
    v.readAt (Elt F) (Rect.unit off s.size inb).toLoadRect f = v.read (Elt F) f := by
  funext x
  show _root_.cast _ (f (v.emb ((Rect.unit off s.size inb).emb x))) = _root_.cast _ (f (v.emb x))
  rw [emb_zero h]

theorem read_write_zero {s : Shape} {e : EltTy} (v : View sig .tc .vmem s e) {off : Fin s.rank → Nat} (h : off = fun _ => 0)
    (inb : ∀ a, off a + s.size a ≤ s.size a) (f : v.ty.Contents (Elt F)) (w : s.Idx → Elt F e) :
    v.read (Elt F) ((v.slice (Rect.unit off s.size inb)).write (Elt F) f w Finset.univ) = w := by
  funext x
  have hx := View.read_slice_write_emb (v := v) (Val := Elt F) (Rect.unit off s.size inb) f w (x := x) (Finset.mem_univ x)
  rw [emb_zero h] at hx
  exact hx

theorem zero2 : (![0, 0] : Fin 2 → Nat) = fun _ => 0 := by funext a; fin_cases a <;> rfl
theorem zero3 : (![0, 0, 0] : Fin 3 → Nat) = fun _ => 0 := by funext a; fin_cases a <;> rfl

theorem free_eq (c : Dev nD) {s : Shape} {e : EltTy} (r : Memref sig .tc .vmem s e) :
    (free (F := F) c r : sProp 𝕄) ⊢ iprop(∃ V, holds c r fullShare V) := by
  unfold free holds
  iintro ⟨%f, H⟩
  iexists (r.view.read (Elt F) f)
  iexists f
  isplitr; · ipureintro; rfl
  iexact H

theorem holds_free (c : Dev nD) {s : Shape} {e : EltTy} (r : Memref sig .tc .vmem s e) (V : s.Idx → Elt F e) :
    (holds c r fullShare V : sProp 𝕄) ⊢ free c r := by
  unfold free holds
  iintro ⟨%f, -, H⟩
  iexists f; iexact H

/-- A buffer loaded whole. -/
theorem WP_load (c : Dev nD) {s : Shape} {e : EltTy} (r : Memref sig .tc .vmem s e) {off : Fin s.rank → Nat} (h : off = fun _ => 0)
    (inb : ∀ a, off a + s.size a ≤ s.size a) (hl : r.view.LoadsAt (Rect.unit off s.size inb).toLoadRect) (q : PosShare TreeShare)
    (V : s.Idx → Elt F e) (Q : (s.Idx → Elt F e) → sProp 𝕄) :
    (holds c r q V : sProp 𝕄) ⊢ iprop((holds c r q V -∗ Q V)
      -∗ WP c (Prog.lift (.load r (Rect.unit off s.size inb).toLoadRect hl)) Q) := by
  unfold holds
  iintro ⟨%f, %hf, H⟩ Hk
  unfold Prog.lift
  iapply (wp_load 𝒱₀ (c : Thread nD τ) none Set.univ (m := r) (View.setOn_subset_set _ _)) $$ H
  iintro H
  rw [readAt_zero r.view h, hf, wp_ret]
  imodintro
  iapply Hk
  iexists f
  isplitr; · ipureintro; exact hf
  iexact H

/-- A buffer stored whole. -/
theorem WP_store (c : Dev nD) {s : Shape} {e : EltTy} (r : Memref sig .tc .vmem s e) {off : Fin s.rank → Nat} (h : off = fun _ => 0)
    (inb : ∀ a, off a + s.size a ≤ s.size a) (w : s.Idx → Elt F e)
    (hx : (r.access (Rect.unit off s.size inb)).Stores Finset.univ)
    (hm : (Finset.univ : Finset (Rect.unit off s.size inb).shape.Idx) = Finset.univ ∨ ∀ a, (Rect.unit off s.size inb).stride a = 1)
    (V : s.Idx → Elt F e) (Q : PUnit → sProp 𝕄) :
    (holds c r fullShare V : sProp 𝕄) ⊢ iprop((holds c r fullShare w -∗ Q ⟨⟩)
      -∗ WP c (Prog.lift (.store r (Rect.unit off s.size inb) w Finset.univ hx hm)) Q) := by
  unfold holds
  iintro ⟨%f, -, H⟩ Hk
  unfold Prog.lift
  iapply (wp_store 𝒱₀ (c : Thread nD τ) none Set.univ (m := r) (r := Rect.unit off s.size inb) (Mk := Finset.univ)
    (View.set_slice_subset _ _)) $$ H
  iintro H
  rw [wp_ret]
  imodintro
  iapply Hk
  iexists _
  isplitr; · ipureintro; exact read_write_zero r.view h inb f w
  iexact H

/-! ## Loans -/

theorem holds_lend (c : Dev nD) {s : Shape} {e : EltTy} (r : Memref sig .tc .vmem s e) (n : ℕ) (V : s.Idx → Elt F e) :
    (holds c r (rest n) V : sProp 𝕄) ⊢ iprop(holds c r (loan n) V ∗ holds c r (rest (n + 1)) V) := by
  unfold holds
  iintro ⟨%f, %hf, H⟩
  ihave H' := (pointsTo_share (PosShare.mem_left_op_right (rest n))).1 $$ H
  icases H' with ⟨H1, H2⟩
  isplitl [H1]
  · iexists f; isplitr; · ipureintro; exact hf
    iexact H1
  · iexists f; isplitr; · ipureintro; exact hf
    iexact H2

theorem holds_repay (c : Dev nD) {s : Shape} {e : EltTy} (r : Memref sig .tc .vmem s e) (n : ℕ) (V : s.Idx → Elt F e) :
    iprop(holds c r (loan n) V ∗ holds c r (rest (n + 1)) V) ⊢ (holds c r (rest n) V : sProp 𝕄) := by
  unfold holds
  iintro ⟨⟨%f, %hf, H1⟩, ⟨%g, %hg, H2⟩⟩
  iexists f
  isplitr; · ipureintro; exact hf
  have hfg : ∀ i ∈ r.view.set, g i = f i := fun i hi => by
    obtain ⟨x, -, rfl⟩ := Finset.mem_map.mp hi
    have hx : r.view.read (Elt F) g x = r.view.read (Elt F) f x := by rw [hf, hg]
    exact (cast_inj _).mp hx
  ihave H2 := (Entails.of_eq (show (r.view.loc (c : Thread nD τ) ↦[r.view.set]{rest (n + 1)} g : sProp 𝕄)
    = (r.view.loc (c : Thread nD τ) ↦[r.view.set]{(rest n).right} f) from pointsTo_congr hfg)) $$ H2
  iapply (pointsTo_share (PosShare.mem_left_op_right (rest n))).2
  isplitl [H1]; · iexact H1
  iexact H2

/-- A buffer lent to seven copies, -/
theorem lend_seven (c : Dev nD) {s : Shape} {e : EltTy} (r : Memref sig .tc .vmem s e) (V : s.Idx → Elt F e) :
    (holds c r fullShare V : sProp 𝕄)
      ⊢ iprop((bigSep Finset.univ fun k : Fin 7 => holds c r (loan k.val) V) ∗ holds c r (rest 7) V) := by
  rw [bigSep_seven]
  show (holds c r (rest 0) V : sProp 𝕄) ⊢ _
  iintro H
  ihave H := (holds_lend c r 0 V) $$ H; icases H with ⟨H0, H⟩
  ihave H := (holds_lend c r 1 V) $$ H; icases H with ⟨H1, H⟩
  ihave H := (holds_lend c r 2 V) $$ H; icases H with ⟨H2, H⟩
  ihave H := (holds_lend c r 3 V) $$ H; icases H with ⟨H3, H⟩
  ihave H := (holds_lend c r 4 V) $$ H; icases H with ⟨H4, H⟩
  ihave H := (holds_lend c r 5 V) $$ H; icases H with ⟨H5, H⟩
  ihave H := (holds_lend c r 6 V) $$ H; icases H with ⟨H6, H⟩
  isplitr [H]
  · isplitl [H0]; · iexact H0
    isplitl [H1]; · iexact H1
    isplitl [H2]; · iexact H2
    isplitl [H3]; · iexact H3
    isplitl [H4]; · iexact H4
    isplitl [H5]; · iexact H5
    iexact H6
  · iexact H

/-- and returned by them. -/
theorem repay_seven (c : Dev nD) {s : Shape} {e : EltTy} (r : Memref sig .tc .vmem s e) (V : s.Idx → Elt F e) :
    iprop((bigSep Finset.univ fun k : Fin 7 => holds c r (loan k.val) V) ∗ holds c r (rest 7) V)
      ⊢ (holds c r fullShare V : sProp 𝕄) := by
  rw [bigSep_seven]
  show _ ⊢ (holds c r (rest 0) V : sProp 𝕄)
  iintro ⟨⟨H0, H1, H2, H3, H4, H5, H6⟩, H⟩
  iapply (holds_repay c r 0 V); isplitl [H0]; · iexact H0
  iapply (holds_repay c r 1 V); isplitl [H1]; · iexact H1
  iapply (holds_repay c r 2 V); isplitl [H2]; · iexact H2
  iapply (holds_repay c r 3 V); isplitl [H3]; · iexact H3
  iapply (holds_repay c r 4 V); isplitl [H4]; · iexact H4
  iapply (holds_repay c r 5 V); isplitl [H5]; · iexact H5
  iapply (holds_repay c r 6 V); isplitl [H6]; · iexact H6
  iexact H

/-! ## Slots -/

theorem slot3_set (k : Fin 7) (r : Memref sig .tc .vmem S7x256x1024 .bf16) :
    (slot3 r k).view.set = (rect3 k).set.map r.view.emb := by
  show ((r.view.slice (rect3 k)).reshape _ _).set = _
  rw [View.set_reshape, View.set_slice]
theorem slot4_set (k : Fin 7) (r : Memref sig .tc .vmem S7x2x256x1024 .bf16) :
    (slot4 r k).view.set = (rect4 k).set.map r.view.emb := by
  show ((r.view.slice (rect4 k)).reshape _ _).set = _
  rw [View.set_reshape, View.set_slice]

theorem rect3_disjoint (k k' : Fin 7) (h : k ≠ k') : Disjoint (rect3 k).set (rect3 k').set :=
  Rect.unit_disjoint (0 : Fin 3) (by
    have : k.val ≠ k'.val := fun e => h (Fin.ext e)
    show k.val + 1 ≤ k'.val ∨ k'.val + 1 ≤ k.val
    omega)
theorem rect4_disjoint (k k' : Fin 7) (h : k ≠ k') : Disjoint (rect4 k).set (rect4 k').set :=
  Rect.unit_disjoint (0 : Fin 4) (by
    have : k.val ≠ k'.val := fun e => h (Fin.ext e)
    show k.val + 1 ≤ k'.val ∨ k'.val + 1 ≤ k.val
    omega)
theorem half_disjoint (k : Fin 7) : Disjoint (half k 0).set (half k 1).set :=
  Rect.unit_disjoint (1 : Fin 4) (.inl (le_refl 1))
theorem half_subset (k : Fin 7) (i : Fin 2) : (half k i).set ⊆ (rect4 k).set := fun x hx => by
  rw [Rect.mem_set_unit] at hx ⊢
  refine fun a => ?_
  have := hx a
  have hi := i.isLt
  match a with
  | 0 => exact this
  | 1 => exact ⟨Nat.zero_le _, (x 1).isLt⟩
  | 2 => exact this
  | 3 => exact this

theorem rect3_cover : Finset.univ.biUnion (fun k : Fin 7 => (rect3 k).set) = Finset.univ := by
  refine Finset.eq_univ_of_forall fun x => Finset.mem_biUnion.mpr ⟨⟨(x 0).val, (x 0).isLt⟩, Finset.mem_univ _, ?_⟩
  rw [Rect.mem_set_unit]
  intro a
  match a with
  | 0 => exact ⟨le_rfl, Nat.lt_succ_self _⟩
  | 1 => exact ⟨Nat.zero_le _, by have := (x 1).isLt; simpa using this⟩
  | 2 => exact ⟨Nat.zero_le _, by have := (x 2).isLt; simpa using this⟩
theorem rect4_cover : Finset.univ.biUnion (fun k : Fin 7 => (rect4 k).set) = Finset.univ := by
  refine Finset.eq_univ_of_forall fun x => Finset.mem_biUnion.mpr ⟨⟨(x 0).val, (x 0).isLt⟩, Finset.mem_univ _, ?_⟩
  rw [Rect.mem_set_unit]
  intro a
  match a with
  | 0 => exact ⟨le_rfl, Nat.lt_succ_self _⟩
  | 1 => exact ⟨Nat.zero_le _, by have := (x 1).isLt; simpa using this⟩
  | 2 => exact ⟨Nat.zero_le _, by have := (x 2).isLt; simpa using this⟩
  | 3 => exact ⟨Nat.zero_le _, by have := (x 3).isLt; simpa using this⟩

theorem map_cover {κ : Kind} {sp : Space} {s : Shape} {e : EltTy} (v : View sig κ sp s e) {I : Fin 7 → Finset s.Idx}
    (h : Finset.univ.biUnion I = Finset.univ) : Finset.univ.biUnion (fun k => (I k).map v.emb) = v.set := by
  ext i
  simp only [Finset.mem_biUnion, Finset.mem_univ, true_and, Finset.mem_map, View.set]
  constructor
  · rintro ⟨k, x, -, rfl⟩; exact ⟨x, rfl⟩
  · rintro ⟨x, rfl⟩
    have hx : x ∈ Finset.univ.biUnion I := by rw [h]; exact Finset.mem_univ x
    obtain ⟨k, -, hk⟩ := Finset.mem_biUnion.mp hx
    exact ⟨k, x, hk, rfl⟩
theorem map_disjoint {κ : Kind} {sp : Space} {s : Shape} {e : EltTy} (v : View sig κ sp s e) {A B : Finset s.Idx}
    (h : Disjoint A B) : Disjoint (A.map v.emb) (B.map v.emb) := (Finset.disjoint_map v.emb).mpr h

/-- A buffer of seven batches, at anything, is its slots; -/
theorem split3 (c : Dev nD) (r : Memref sig .tc .vmem S7x256x1024 .bf16) :
    (free (F := F) c r : sProp 𝕄) ⊢ bigSep Finset.univ fun k : Fin 7 => free c (slot3 r k) := by
  unfold free
  iintro ⟨%f, H⟩
  ihave H := (Entails.of_eq (Ring.pointsTo_sub_blocks (Val := Elt F) (Ix := Unit) (Name := ℕ) (U := UU) (Lvl := ℕ)
    (ℓ := r.view.loc (c : Thread nD τ)) (fun k : Fin 7 => (rect3 k).set.map r.view.emb)
    (fun k k' h => map_disjoint r.view (rect3_disjoint k k' h)) r.view.set (map_cover r.view rect3_cover) (q := fullShare) f)) $$ H
  have hk : ∀ k : Fin 7, (r.view.loc (c : Thread nD τ) ↦[(rect3 k).set.map r.view.emb]{fullShare} f : sProp 𝕄)
      ⊢ iprop(∃ f, (slot3 r k).view.loc (c : Thread nD τ) ↦[(slot3 r k).view.set]{fullShare} f) := fun k => by
    rw [slot3_set]
    iintro H; iexists f; iexact H
  iapply (seven_mono hk) $$ H
/-- and its slots are it. -/
theorem join3 (c : Dev nD) (r : Memref sig .tc .vmem S7x256x1024 .bf16) (f₀ : Buf (Elt F) (r.view.loc (c : Thread nD τ))) :
    (bigSep Finset.univ fun k : Fin 7 => free c (slot3 r k)) ⊢ (free (F := F) c r : sProp 𝕄) := by
  unfold free
  refine BIBase.Entails.trans ?_ (Ring.pointsTo_sub_blocks_join_exists (Val := Elt F) (Ix := Unit) (Name := ℕ) (U := UU) (Lvl := ℕ)
    (ℓ := r.view.loc (c : Thread nD τ)) (fun k : Fin 7 => (rect3 k).set.map r.view.emb)
    (fun k k' h => map_disjoint r.view (rect3_disjoint k k' h)) r.view.set (map_cover r.view rect3_cover) (q := fullShare) f₀)
  refine seven_mono fun k => ?_
  rw [slot3_set]

/-- The same for a buffer of seven pairs. -/
theorem split4 (c : Dev nD) (r : Memref sig .tc .vmem S7x2x256x1024 .bf16) :
    (free (F := F) c r : sProp 𝕄) ⊢ bigSep Finset.univ fun k : Fin 7 => free c (slot4 r k) := by
  unfold free
  iintro ⟨%f, H⟩
  ihave H := (Entails.of_eq (Ring.pointsTo_sub_blocks (Val := Elt F) (Ix := Unit) (Name := ℕ) (U := UU) (Lvl := ℕ)
    (ℓ := r.view.loc (c : Thread nD τ)) (fun k : Fin 7 => (rect4 k).set.map r.view.emb)
    (fun k k' h => map_disjoint r.view (rect4_disjoint k k' h)) r.view.set (map_cover r.view rect4_cover) (q := fullShare) f)) $$ H
  have hk : ∀ k : Fin 7, (r.view.loc (c : Thread nD τ) ↦[(rect4 k).set.map r.view.emb]{fullShare} f : sProp 𝕄)
      ⊢ iprop(∃ f, (slot4 r k).view.loc (c : Thread nD τ) ↦[(slot4 r k).view.set]{fullShare} f) := fun k => by
    rw [slot4_set]
    iintro H; iexists f; iexact H
  iapply (seven_mono hk) $$ H
theorem join4 (c : Dev nD) (r : Memref sig .tc .vmem S7x2x256x1024 .bf16) (f₀ : Buf (Elt F) (r.view.loc (c : Thread nD τ))) :
    (bigSep Finset.univ fun k : Fin 7 => free c (slot4 r k)) ⊢ (free (F := F) c r : sProp 𝕄) := by
  unfold free
  refine BIBase.Entails.trans ?_ (Ring.pointsTo_sub_blocks_join_exists (Val := Elt F) (Ix := Unit) (Name := ℕ) (U := UU) (Lvl := ℕ)
    (ℓ := r.view.loc (c : Thread nD τ)) (fun k : Fin 7 => (rect4 k).set.map r.view.emb)
    (fun k k' h => map_disjoint r.view (rect4_disjoint k k' h)) r.view.set (map_cover r.view rect4_cover) (q := fullShare) f₀)
  refine seven_mono fun k => ?_
  rw [slot4_set]

theorem pair_free (c : Dev nD) (b : Memref sig .tc .vmem S7x2x256x1024 .bf16) (k : Fin 7) (A B : FVec F S1x1x256x1024 .bf16) :
    (pair c b k A B : sProp 𝕄) ⊢ free c (slot4 b k) := by
  unfold pair free
  iintro ⟨%f, -, H⟩
  iexists f; iexact H

/-! ## Loads and stores of a slot -/

theorem half_set_subset (b : Memref sig .tc .vmem S7x2x256x1024 .bf16) (k : Fin 7) (i : Fin 2) :
    (half k i).set.map b.view.emb ⊆ (slot4 b k).view.set := by
  rw [slot4_set]; exact Finset.map_subset_map.mpr (half_subset k i)

/-- A slot loaded: the batch in it, in the shape of a slot. -/
theorem WP_ldSlot (c : Dev nD) (b : Memref sig .tc .vmem S7x256x1024 .bf16) (k : Fin 7) (q : PosShare TreeShare)
    (V : FVec F S256x1024 .bf16) (Q : FVec F S1x256x1024 .bf16 → sProp 𝕄) :
    (holds c (slot3 b k) q V : sProp 𝕄) ⊢ iprop((∀ v : FVec F S1x256x1024 .bf16,
        ⌜shapeCast S256x1024 v shapeCasts_S1x256x1024_S256x1024 = V⌝ -∗ holds c (slot3 b k) q V -∗ Q v)
      -∗ WP c (ldSlot b k) Q) := by
  unfold holds
  iintro ⟨%f, %hf, H⟩ Hk
  unfold ldSlot Prog.lift
  iapply (wp_load 𝒱₀ (c : Thread nD τ) none Set.univ (m := b) (S := (slot3 b k).view.set)
    (by rw [slot3_set]; exact Finset.Subset.refl _)) $$ H
  iintro H
  rw [wp_ret]
  imodintro
  ispecialize Hk $$ %(b.view.readAt (Elt F) (rect3 k).toLoadRect f)
  iapply Hk $$ %(show shapeCast S256x1024 (b.view.readAt (Elt F) (rect3 k).toLoadRect f) shapeCasts_S1x256x1024_S256x1024 = V from hf)
  iexists f
  isplitr; · ipureintro; exact hf
  iexact H

/-- Half of a pair loaded; -/
theorem WP_ldHalf (c : Dev nD) (b : Memref sig .tc .vmem S7x2x256x1024 .bf16) (k : Fin 7) (i : Fin 2)
    (f : Buf (Elt F) ((slot4 b k).view.loc (c : Thread nD τ))) (Q : FVec F S1x1x256x1024 .bf16 → sProp 𝕄) :
    ((slot4 b k).view.loc (c : Thread nD τ) ↦[(slot4 b k).view.set]{fullShare} f : sProp 𝕄)
      ⊢ iprop((((slot4 b k).view.loc (c : Thread nD τ) ↦[(slot4 b k).view.set]{fullShare} f)
          -∗ Q (b.view.readAt (Elt F) (half k i).toLoadRect f)) -∗ WP c (ldHalf b k i) Q) := by
  iintro H Hk
  unfold ldHalf Prog.lift
  iapply (wp_load 𝒱₀ (c : Thread nD τ) none Set.univ (m := b) (S := (slot4 b k).view.set) (half_set_subset b k i)) $$ H
  iintro H
  rw [wp_ret]
  imodintro
  iapply Hk; iexact H

/-- and stored. -/
theorem WP_stHalf (c : Dev nD) (b : Memref sig .tc .vmem S7x2x256x1024 .bf16) (hb : b.IsWhole) (k : Fin 7) (i : Fin 2)
    (w : FVec F S1x1x256x1024 .bf16) (f : Buf (Elt F) ((slot4 b k).view.loc (c : Thread nD τ))) (Q : PUnit → sProp 𝕄) :
    ((slot4 b k).view.loc (c : Thread nD τ) ↦[(slot4 b k).view.set]{fullShare} f : sProp 𝕄)
      ⊢ iprop((((slot4 b k).view.loc (c : Thread nD τ) ↦[(slot4 b k).view.set]{fullShare}
            ((b.view.slice (half k i)).write (Elt F) f w Finset.univ)) -∗ Q ⟨⟩) -∗ WP c (stHalf b hb k i w) Q) := by
  iintro H Hk
  unfold stHalf Prog.lift
  iapply (wp_store 𝒱₀ (c : Thread nD τ) none Set.univ (m := b) (r := half k i) (Mk := Finset.univ) (S := (slot4 b k).view.set)
    (by show (b.view.slice (half k i)).set ⊆ _; rw [View.set_slice]; exact half_set_subset b k i)) $$ H
  iintro H
  rw [wp_ret]
  imodintro
  iapply Hk; iexact H

theorem half_written (b : Memref sig .tc .vmem S7x2x256x1024 .bf16) (k : Fin 7) (i : Fin 2) (f : b.view.ty.Contents (Elt F))
    (w : FVec F S1x1x256x1024 .bf16) :
    b.view.readAt (Elt F) (half k i).toLoadRect ((b.view.slice (half k i)).write (Elt F) f w Finset.univ) = w :=
  View.read_write_univ (v := b.view.slice (half k i)) f w
theorem half_kept (b : Memref sig .tc .vmem S7x2x256x1024 .bf16) (k : Fin 7) (f : b.view.ty.Contents (Elt F))
    (w : FVec F S1x1x256x1024 .bf16) :
    b.view.readAt (Elt F) (half k 0).toLoadRect ((b.view.slice (half k 1)).write (Elt F) f w Finset.univ)
      = b.view.readAt (Elt F) (half k 0).toLoadRect f :=
  View.read_slice_write_slice_of_disjoint (v := b.view) (half k 0) (half k 1) f w Finset.univ (by
    show Disjoint (b.view.slice (half k 0)).set (b.view.slice (half k 1)).set
    rw [View.set_slice, View.set_slice]
    exact map_disjoint b.view (half_disjoint k))

/-- A pair copied to another buffer: each half reads there what it read here. -/
theorem pair_copied (k : Fin 7) (i : Fin 2) (f : stage.view.ty.Contents (Elt F)) (g : combo.view.ty.Contents (Elt F)) :
    combo.view.readAt (Elt F) (half k i).toLoadRect
        ((slot4 combo k).view.write (Elt F) g ((slot4 stage k).view.read (Elt F) f) Finset.univ)
      = stage.view.readAt (Elt F) (half k i).toLoadRect f := by
  rw [show (slot4 stage k).view.read (Elt F) f = (slot4 combo k).view.read (Elt F) f from rfl, View.write_read_eq_piecewise]
  refine (View.readAt_congr (g := f) fun j hj => ?_).trans rfl
  exact Finset.piecewise_eq_of_mem _ _ _ (half_set_subset combo k i hj)

/-! ## The scratch buffers as the launch hands them -/

theorem scratch_xb (c : Dev nD) :
    (iprop(∃ f, ((c : Thread nD τ).loc cc0_scratch0) ↦{fullShare} f) : sProp 𝕄) = free c xb := by
  unfold free; rw [Memref.view_whole, View.set_whole]

end Cert.Heads

end
-- ==== Proof.Comm.lean ====
/-
# The rules of the conversation

A signal, a wait and a remote copy at the cells of `Cell`: what each takes and gives, with all invariants in one
persistent `records`. A wait closes its cell at once, since each has one round.
-/
module

public import proofs.«01_k».proof.Proof.Memory

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cell

variable {F : FTy → Type} [FloatOps F]

local notation "𝕄" => MT nD τ sig Unit (Elt F) ℕ UU ℕ

variable (m : (ℓ : Loc nD τ sig) → Buf (Elt F) ℓ) (K : Dev nD × Cell → ℕ)

/-- The invariants of all cells, that each is in its round 0, and the levels. -/
def records : sProp 𝕄 :=
  iprop((bigSep Finset.univ fun p : Dev nD × Cell => cellInv ER (Rd m) (K p) (cell p.1 p.2))
    ∗ (bigSep Finset.univ fun p : Dev nD × Cell => reached ER (cell p.1 p.2) 0) ∗ levAts L lv)

instance records_persistent : BI.Persistent (records m K) := by unfold records; infer_instance

theorem bigSep_get {I : Type} [Fintype I] [DecidableEq I] (Φ : I → sProp 𝕄) (i : I) : bigSep Finset.univ Φ ⊢ Φ i :=
  Idealize.SL.BI.bigSep_elim (Finset.mem_univ i)

theorem records_inv (c : Dev nD) (x : Cell) : records m K ⊢ cellInv ER (Rd m) (K (c, x)) (cell c x) := by
  unfold records
  iintro ⟨H, -, -⟩
  iapply (bigSep_get (fun p : Dev nD × Cell => cellInv ER (Rd m) (K p) (cell p.1 p.2)) (c, x)) $$ H
theorem records_reached (c : Dev nD) (x : Cell) : records m K ⊢ reached ER (cell c x) 0 := by
  unfold records
  iintro ⟨-, H, -⟩
  iapply (bigSep_get (fun p : Dev nD × Cell => (reached ER (cell p.1 p.2) 0 : sProp 𝕄)) (c, x)) $$ H
/-- What a device still owes, whatever waits it has recorded. -/
def owing (c : Dev nD) (O : CellTallies nD τ sig Unit) : sProp 𝕄 := iprop(∃ W, owes (c : Thread nD τ) O W)

/-- The position of a cell's owner in its one round; the token of a duty. -/
abbrev pos (c : Dev nD) (x : Cell) : sProp 𝕄 := atPos ER (cell c x) 0 ∅ 0
abbrev tok (c : Dev nD) (x : Cell) (d : Duty) : sProp 𝕄 := dutyTok ER (cell c x) 0 d
/-- A credit on a cell. -/
abbrev crd (c : Dev nD) (x : Cell) : sProp 𝕄 := cred (tallyAt (cell c x) () (units x))
/-- The counter of a cell, at zero. -/
abbrev zero (c : Dev nD) (x : Cell) : sProp 𝕄 := semVal (cell c x) 0

theorem units_single (x : Cell) (h : dutiesOf x = {none}) : units x = amt x := by
  unfold units; rw [h, Finset.card_singleton, one_mul]

/-- A signal to the barrier of device `d`. -/
theorem WP_signal (c d dv : Dev nD) (hdv : dv = d) (δ : Duty) (O : CellTallies nD τ sig Unit) (Q : PUnit → sProp 𝕄) :
    iprop(records m K ∗ owing c (O + tallyAt (cell d bar) () 1) ∗ tok d bar δ ∗ pay m d bar δ)
      ⊢ iprop((owing c O -∗ Q ⟨⟩) -∗ WP c (semSignalWord dv barrier 1#32) Q) := by
  subst hdv
  iintro ⟨#HR, HO, Ht, Hp⟩ Hk
  unfold owing
  icases HO with ⟨%W, HO⟩
  simp only [semSignalWord, Prog.lift]
  iapply (Rounds.wp_signal 𝒱₀ ER (Rd m) (c : Thread nD τ) none (dst := (dv : Thread nD τ)) (κ := K (dv, bar))
      (d := δ) (by rw [show (((dv : Thread nD τ), SemLoc.reg barrier) : GSem nD τ sig) = cell dv bar from rfl, duties_eq]; exact Finset.mem_univ _)
      ((amount_eq m dv bar δ).trans (by decide)) () O rfl) $$ [HO Ht Hp]
  · isplitr; · iapply (records_inv m K dv bar); iexact HR
    isplitl [HO]; · iexact HO
    isplitl [Ht]; · iexact Ht
    isplitl [Hp]
    · iapply (Entails.of_eq (show pay m dv bar δ = (Rd m).payload ((dv : Thread nD τ), SemLoc.reg barrier) 0 δ from (payload_eq m dv bar δ).symm)); iexact Hp
    · iapply (records_reached m K dv bar); iexact HR
  iintro HO
  rw [wp_ret]
  imodintro
  iapply Hk
  iexists W; iexact HO

theorem records_may (c : Dev nD) (x : Cell) {O : CellTallies nD τ sig Unit} (hO : Above (lvl x) O) :
    records m K ⊢ MayWait (c : Thread nD τ) x.sem () O := by
  refine BIBase.Entails.trans (Q := (levAts L lv : sProp 𝕄)) ?_ (mayWait_of_above c x.sem (lvl x) (le_of_eq (lv_cell c x ())) hO)
  unfold records
  iintro ⟨-, -, H⟩; iexact H

/-- A wait for the whole of a cell's round; the cell closes. -/
theorem WP_wait (c : Dev nD) (x : Cell) {w : TpuEff nD τ sig (Elt F) Λ₀ .tc PUnit} {sm : SemLoc sig} {k' : ℕ} (hsm : sm = x.sem)
    (hw : ∀ Kt : PUnit → sProp 𝕄, wpE (defs₀ (F := F)) 𝒱₀ (c : Thread nD τ) none Set.univ w Kt = waitSpec (c : Thread nD τ) Set.univ sm k' Kt)
    (hk : k' = units x) (O : CellTallies nD τ sig Unit) (hO : Above (lvl x) O) (Q : PUnit → sProp 𝕄) :
    iprop(records m K ∗ crd c x ∗ owing c O ∗ pos c x)
      ⊢ iprop(((owing c O ∗ zero c x ∗ bigSep (dutiesOf x) (pay m c x)) -∗ Q ⟨⟩) -∗ WP c (Prog.lift w) Q) := by
  subst hsm hk
  have hexp : 0 + units x = (Rd m).expect ((c : Thread nD τ), x.sem) 0 := (Nat.zero_add _).trans (expect_eq m c x).symm
  iintro ⟨#HR, Hc, HO, Hat⟩ Hk
  unfold owing
  icases HO with ⟨%W, HO⟩
  simp only [Prog.lift]
  iapply (Rounds.wp_wait_rest_token 𝒱₀ ER (Rd m) (c : Thread nD τ) none (κ := K (c, x)) hw (Set.mem_univ _) () (O := O) (W := W)
      (R := 0) (m := 0) (T := ∅) hexp) $$ [Hc HO Hat]
  · isplitr; · iapply (records_inv m K c x); iexact HR
    isplitl [Hc]; · iexact Hc
    isplitl [HO]; · iexact HO
    isplitr
    · iapply (records_may m K c x hO); iexact HR
    iexact Hat
  iintro ⟨HO, Hat, -, Hp⟩
  rw [wp_ret]
  imod (Rounds.cell_close ER (Rd m) (Set.mem_univ (K (c, x))) (fun h => h) (R := 0 + 1) (duties_later m (cell c x))) $$ [Hat] with Hz
  · isplitr; · iapply (records_inv m K c x); iexact HR
    iexact Hat
  imodintro
  iapply Hk
  isplitl [HO]; · iexists _; iexact HO
  isplitl [Hz]; · iexact Hz
  iapply (Entails.of_eq (rest_eq m c x)); iexact Hp

/-- A wait on the cell of a copy, with its one payload. -/
theorem WP_waitDma (c : Dev nD) (x : Cell) {s s' : Shape} {e e' : EltTy} {sm : DmaSem sig} (hsm : SemLoc.dma sm = x.sem)
    (hx : dutiesOf x = {none}) {src : Memref sig .tc .vmem s' e'} {dst : Memref sig .tc .vmem s e} {hsrc : src.view.WordExact}
    {hdst : dst.view.WordExact} (hk : dst.view.dmaCredit = amt x)
    (O : CellTallies nD τ sig Unit) (hO : Above (lvl x) O) (Q : PUnit → sProp 𝕄) :
    iprop(records m K ∗ crd c x ∗ owing c O ∗ pos c x)
      ⊢ iprop(((owing c O ∗ zero c x ∗ pay m c x none) -∗ Q ⟨⟩) -∗ WP c (Prog.lift (.waitDma2 sm src dst hsrc hdst)) Q) := by
  have h := WP_wait m K c x hsm (wpE_waitDma2_eq (src := src) (dst := dst) (hsrc := hsrc) (hdst := hdst) 𝒱₀ (c : Thread nD τ) none Set.univ)
    (hk.trans (units_single x hx).symm) O hO Q
  rw [hx, bigSep_singleton] at h
  exact h

/-- A remote copy: the source lent until the copy has been read out, the destination handed to the peer at what is copied. -/
theorem WP_send (c d dv : Dev nD) (hdv : dv = d) (x y : Cell) {s : Shape} {e : EltTy} {sx sy : DmaSem sig} (hx : SemLoc.dma sx = x.sem) (hy : SemLoc.dma sy = y.sem)
    (hdx : dutiesOf x = {none}) (hdy : dutiesOf y = {none})
    {src : Memref sig .tc .vmem s e} {dst : Memref sig .tc .vmem s e}
    {hsc : (dst : Memref sig (Dev.tc dv : Thread nD τ).2.kind .vmem s e).view.ref.isScScratch = false}
    {hsrc : src.view.WordExact} {hdst : (dst : Memref sig (Dev.tc dv : Thread nD τ).2.kind .vmem s e).view.WordExact}
    {hsem : DmaTarget.Typed .vmem (.dma sy) (.remote (Dev.tc dv : Thread nD τ) dst (.dma sx) hsc)}
    (hN : dst.view.dmaCredit = amt y) (hxy : amt x = amt y) {q : PosShare TreeShare}
    (fs : Buf (Elt F) (src.view.loc (c : Thread nD τ)))
    (hpx : (src.view.loc (c : Thread nD τ) ↦[src.view.set]{q} fs : sProp 𝕄) ⊢ pay m c x none)
    (hpy : ∀ fd : Buf (Elt F) (dst.view.loc (d : Thread nD τ)),
      (dst.view.loc (d : Thread nD τ) ↦[dst.view.set]{fullShare} (dst.view.write (Elt F) fd (src.view.read (Elt F) fs) Finset.univ) : sProp 𝕄)
        ⊢ pay m d y none)
    (O : CellTallies nD τ sig Unit) (Q : PUnit → sProp 𝕄) :
    iprop(records m K ∗ (src.view.loc (c : Thread nD τ) ↦[src.view.set]{q} fs) ∗ free d dst ∗ owing c (O + tallyAt (cell d y) () (amt y))
        ∗ tok c x none ∗ tok d y none)
      ⊢ iprop(((crd c x ∗ owing c O) -∗ Q ⟨⟩)
        -∗ WP c (Prog.lift (.enqueueDma src (.remote (Dev.tc dv : Thread nD τ) dst (.dma sx) hsc) (.dma sy) hsrc hdst hsem)) Q) := by
  subst hdv
  iintro ⟨#HR, Hs, Hd, HO, Htx, Hty⟩ Hk
  unfold owing free
  icases HO with ⟨%W, HO⟩
  icases Hd with ⟨%fd, Hd⟩
  simp only [Prog.lift]
  have gx : (((c : Thread nD τ), SemLoc.dma sx) : GSem nD τ sig) = cell c x := congrArg (Prod.mk (c : Thread nD τ)) hx
  have gy : (((dv : Thread nD τ), SemLoc.dma sy) : GSem nD τ sig) = cell dv y := congrArg (Prod.mk (dv : Thread nD τ)) hy
  have hh := Rounds.wp_send_pointsTo 𝒱₀ ER (Rd m) (c : Thread nD τ) none (defs := defs₀ (F := F)) (Γ := .empty) (Q := Q) (k := fun _ => (Prog.ret ⟨⟩ : Core F PUnit)) (κ₁ := K (c, x)) (κ₂ := K (dv, y))
    (c' := (Dev.tc dv : Thread nD τ)) (src := src) (dst := dst) (hsc := hsc) (sS := .dma sx) (sem := .dma sy) (hsrc := hsrc) (hdst := hdst) (hsem := hsem)
    (r₁ := 0) (r₂ := 0) (d₁ := none) (d₂ := none) (fs := fs) (fd := fd) (q := q)
    (by rw [gx, duties_eq, hdx]; exact Finset.mem_singleton_self _) (by rw [gy, duties_eq, hdy]; exact Finset.mem_singleton_self _)
    () () (amt y) hN (by rw [gx, amount_eq, hxy]) (by rw [gy, amount_eq]) O rfl (W := W)
    (by rw [gx, payload_eq]; exact hpx) (by rw [gy, payload_eq]; exact hpy fd) (Es := Set.univ)
  rw [gx, gy] at hh
  iapply hh $$ [Hs Hd HO Htx Hty]
  · isplitr; · iapply (records_inv m K c x); iexact HR
    isplitr; · iapply (records_inv m K dv y); iexact HR
    isplitl [Hs]; · iexact Hs
    isplitl [Hd]; · iexact Hd
    isplitl [HO]; · iexact HO
    isplitl [Htx]; · iexact Htx
    isplitr; · iapply (records_reached m K c x); iexact HR
    isplitl [Hty]; · iexact Hty
    iapply (records_reached m K dv y); iexact HR
  iintro ⟨Hc, HO⟩
  rw [wp_ret]
  imodintro
  iapply Hk
  isplitl [Hc]
  · iapply (Entails.of_eq (show (cred (tallyAt (cell c x) () (amt y)) : sProp 𝕄) = crd c x by unfold crd; rw [units_single x hdx, hxy])); iexact Hc
  · iexists W; iexact HO

/-- A remote copy of a buffer that reads `V`. -/
theorem WP_sendHolds (c d dv : Dev nD) (hdv : dv = d) (x y : Cell) {s : Shape} {e : EltTy} {sx sy : DmaSem sig} (hx : SemLoc.dma sx = x.sem) (hy : SemLoc.dma sy = y.sem)
    (hdx : dutiesOf x = {none}) (hdy : dutiesOf y = {none})
    {src : Memref sig .tc .vmem s e} {dst : Memref sig .tc .vmem s e}
    {hsc : (dst : Memref sig (Dev.tc dv : Thread nD τ).2.kind .vmem s e).view.ref.isScScratch = false}
    {hsrc : src.view.WordExact} {hdst : (dst : Memref sig (Dev.tc dv : Thread nD τ).2.kind .vmem s e).view.WordExact}
    {hsem : DmaTarget.Typed .vmem (.dma sy) (.remote (Dev.tc dv : Thread nD τ) dst (.dma sx) hsc)}
    (hN : dst.view.dmaCredit = amt y) (hxy : amt x = amt y) (q : PosShare TreeShare) (V : s.Idx → Elt F e)
    (hpx : (holds c src q V : sProp 𝕄) ⊢ pay m c x none) (hpy : (holds d dst fullShare V : sProp 𝕄) ⊢ pay m d y none)
    (O : CellTallies nD τ sig Unit) (Q : PUnit → sProp 𝕄) :
    iprop(records m K ∗ holds c src q V ∗ free d dst ∗ owing c (O + tallyAt (cell d y) () (amt y)) ∗ tok c x none ∗ tok d y none)
      ⊢ iprop(((crd c x ∗ owing c O) -∗ Q ⟨⟩)
        -∗ WP c (Prog.lift (.enqueueDma src (.remote (Dev.tc dv : Thread nD τ) dst (.dma sx) hsc) (.dma sy) hsrc hdst hsem)) Q) := by
  have hx' : ∀ fs : Buf (Elt F) (src.view.loc (c : Thread nD τ)), src.view.read (Elt F) fs = V →
      (src.view.loc (c : Thread nD τ) ↦[src.view.set]{q} fs : sProp 𝕄) ⊢ holds c src q V := fun fs hfs => by
    unfold holds
    iintro H; iexists fs
    isplitr; · ipureintro; exact hfs
    iexact H
  have hy' : ∀ (fs : Buf (Elt F) (src.view.loc (c : Thread nD τ))) (fd : Buf (Elt F) (dst.view.loc (d : Thread nD τ))), src.view.read (Elt F) fs = V →
      (dst.view.loc (d : Thread nD τ) ↦[dst.view.set]{fullShare} (dst.view.write (Elt F) fd (src.view.read (Elt F) fs) Finset.univ) : sProp 𝕄)
        ⊢ holds d dst fullShare V := fun fs fd hfs => by
    unfold holds
    iintro H; iexists (dst.view.write (Elt F) fd (src.view.read (Elt F) fs) Finset.univ)
    isplitr; · ipureintro; exact (View.read_write_univ _ _).trans hfs
    iexact H
  unfold holds
  iintro ⟨#HR, ⟨%fs, %hfs, Hs⟩, Hrest⟩
  iapply (WP_send m K c d dv hdv x y hx hy hdx hdy hN hxy fs (BIBase.Entails.trans (hx' fs hfs) hpx)
    (fun fd => BIBase.Entails.trans (hy' fs fd hfs) hpy) O Q)
  isplitr; · iexact HR
  isplitl [Hs]; · iexact Hs
  iexact Hrest

end Cert.Heads

end
-- ==== Proof.Peers.lean ====
/-
# The steps, one at a time

Each step of the body at a symbolic device, and each loop's step at a symbolic index: what it takes, what it leaves.
-/
module

public import proofs.«01_k».proof.Proof.Comm

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cell

variable {F : FTy → Type} [FloatOps F]

local notation "𝕄" => MT nD τ sig Unit (Elt F) ℕ UU ℕ

variable (m : (ℓ : Loc nD τ sig) → Buf (Elt F) ℓ) (K : Dev nD × Cell → ℕ)

/-! ## What is still owed, in the order it is paid -/

abbrev dueAt (d : Dev nD) (x : Cell) : CellTallies nD τ sig Unit := tallyAt (cell d x) () (amt x)

abbrev dBar (c : Dev nD) (k : Fin 7) := dueAt (fwd k c) bar
abbrev dNear (c : Dev nD) (k : Fin 7) := dueAt (fwd k c) (rxNear k)
abbrev dFar (c : Dev nD) (k : Fin 7) := dueAt (fwd k c) (rxFar k)
abbrev dComb (c : Dev nD) (k : Fin 7) := dueAt (fwd (rev k) c) (rpComb k)

/-- Owed once the sum has not been sent; while the pairs go back; the batches are handed on; the batch is sent to the peers; to the
    mirror; the mirror is signalled; the peers are signalled. -/
abbrev oSum (c : Dev nD) : CellTallies nD τ sig Unit := 0 + dueAt (mirror c) rpFs
abbrev oComb (c : Dev nD) (j : ℕ) := oSum c + due (dComb c) j
abbrev oFar (c : Dev nD) (j : ℕ) := oComb c 0 + due (dFar c) j
abbrev oNear (c : Dev nD) (j : ℕ) := oFar c 0 + due (dNear c) j
abbrev oMir (c : Dev nD) := oNear c 0 + dueAt (mirror c) rxMir
abbrev oBarM (c : Dev nD) := oMir c + dueAt (mirror c) bar
abbrev oBar (c : Dev nD) (j : ℕ) := oBarM c + due (dBar c) j

theorem owing_step (c : Dev nD) (O : CellTallies nD τ sig Unit) (t : Fin 7 → CellTallies nD τ sig Unit) (k : Fin 7) :
    (owing c (O + due t k.val) : sProp 𝕄) ⊢ owing c ((O + due t (k.val + 1)) + t k) := by
  rw [due_step, add_assoc]
theorem owing_done (c : Dev nD) (O : CellTallies nD τ sig Unit) (t : Fin 7 → CellTallies nD τ sig Unit) :
    (owing c (O + due t 7) : sProp 𝕄) ⊢ owing c O := by
  rw [due_done, add_zero]

theorem above_oSum (c : Dev nD) {n : ℕ} (h : n < 5) : Above n (oSum c) := above_add (above_zero n) (above_at _ rpFs _ h)
theorem above_oComb (c : Dev nD) (j : ℕ) {n : ℕ} (h : n < 4) : Above n (oComb c j) :=
  above_add (above_oSum c (by omega)) (above_due _ _ fun k => above_at _ (rpComb k) _ h)
theorem above_oFar (c : Dev nD) (j : ℕ) {n : ℕ} (h : n < 3) : Above n (oFar c j) :=
  above_add (above_oComb c 0 (by omega)) (above_due _ _ fun k => above_at _ (rxFar k) _ h)
theorem above_oNear (c : Dev nD) (j : ℕ) {n : ℕ} (h : n < 2) : Above n (oNear c j) :=
  above_add (above_oFar c 0 (by omega)) (above_due _ _ fun k => above_at _ (rxNear k) _ h)
theorem above_oMir (c : Dev nD) {n : ℕ} (h : n < 2) : Above n (oMir c) :=
  above_add (above_oNear c 0 h) (above_at _ rxMir _ h)

/-! ## Loads and stores at the shapes used -/

theorem WP_ldx (c : Dev nD) (r : Memref sig .tc .vmem S256x1024 .bf16) (q : PosShare TreeShare) (V : FVec F S256x1024 .bf16)
    (Q : FVec F S256x1024 .bf16 → sProp 𝕄) :
    (holds c r q V : sProp 𝕄) ⊢ iprop((holds c r q V -∗ Q V) -∗ WP c (ldx r) Q) := WP_load c r zero2 _ _ q V Q
theorem WP_ldw (c : Dev nD) {e : EltTy} (r : Memref sig .tc .vmem S1024x1024 e) (q : PosShare TreeShare) (V : S1024x1024.Idx → Elt F e)
    (Q : (S1024x1024.Idx → Elt F e) → sProp 𝕄) :
    (holds c r q V : sProp 𝕄) ⊢ iprop((holds c r q V -∗ Q V) -∗ WP c (ldw r) Q) := WP_load c r zero2 _ _ q V Q
theorem WP_ld3 (c : Dev nD) (r : Memref sig .tc .vmem S1x256x1024 .f32) (q : PosShare TreeShare) (V : FVec F S1x256x1024 .f32)
    (Q : FVec F S1x256x1024 .f32 → sProp 𝕄) :
    (holds c r q V : sProp 𝕄) ⊢ iprop((holds c r q V -∗ Q V) -∗ WP c (ld3 r) Q) := WP_load c r zero3 _ _ q V Q
theorem WP_stx (c : Dev nD) (r : Memref sig .tc .vmem S256x1024 .bf16) (hr : r.IsWhole) (w V : FVec F S256x1024 .bf16)
    (Q : PUnit → sProp 𝕄) :
    (holds c r fullShare V : sProp 𝕄) ⊢ iprop((holds c r fullShare w -∗ Q ⟨⟩) -∗ WP c (stx r hr w) Q) := WP_store c r zero2 _ w _ _ V Q
theorem WP_stw (c : Dev nD) (r : Memref sig .tc .vmem S1024x1024 .bf16) (hr : r.IsWhole) (w V : FVec F S1024x1024 .bf16)
    (Q : PUnit → sProp 𝕄) :
    (holds c r fullShare V : sProp 𝕄) ⊢ iprop((holds c r fullShare w -∗ Q ⟨⟩) -∗ WP c (stw r hr w) Q) := WP_store c r zero2 _ w _ _ V Q
theorem WP_st3 (c : Dev nD) (r : Memref sig .tc .vmem S1x256x1024 .f32) (w V : FVec F S1x256x1024 .f32) (Q : PUnit → sProp 𝕄) :
    (holds c r fullShare V : sProp 𝕄) ⊢ iprop((holds c r fullShare w -∗ Q ⟨⟩) -∗ WP c (st3 r w) Q) := WP_store c r zero3 _ w _ _ V Q

/-! ## Preparing the operands -/

theorem step_prepX (c : Dev nD) (V : FVec F S1x256x1024 .f32) (Q : PUnit → sProp 𝕄) :
    iprop(holds c xRef fullShare V ∗ free c xb)
      ⊢ iprop((iprop(holds c xRef fullShare V ∗ holds c xb fullShare (xOf V)) -∗ Q ⟨⟩) -∗ WP c prepX Q) := by
  unfold prepX
  simp only [WP_bind]
  iintro ⟨Hx, Hb⟩ Hk
  ihave Hb := (free_eq c xb) $$ Hb
  icases Hb with ⟨%W, Hb⟩
  iapply (WP_ld3 c xRef fullShare V _) $$ Hx
  iintro Hx
  iapply (WP_ldx c xb fullShare W _) $$ Hb
  iintro Hb
  iapply (WP_stx c xb _ (xOf V) W _) $$ Hb
  iintro Hb
  iapply Hk
  isplitl [Hx] <;> iassumption

theorem step_prepW (c : Dev nD) (r : Memref sig .tc .vmem S1024x1024 .f32) (b : Memref sig .tc .vmem S1024x1024 .bf16) (hb : b.IsWhole)
    (V : FVec F S1024x1024 .f32) (Q : PUnit → sProp 𝕄) :
    iprop(holds c r fullShare V ∗ free c b)
      ⊢ iprop((iprop(holds c r fullShare V ∗ holds c b fullShare (wOf V)) -∗ Q ⟨⟩) -∗ WP c (prepW r b hb) Q) := by
  unfold prepW
  simp only [WP_bind]
  iintro ⟨Hx, Hb⟩ Hk
  ihave Hb := (free_eq c b) $$ Hb
  icases Hb with ⟨%W, Hb⟩
  iapply (WP_ldw c r fullShare V _) $$ Hx
  iintro Hx
  iapply (WP_ldw c b fullShare W _) $$ Hb
  iintro Hb
  iapply (WP_stw c b hb (wOf V) W _) $$ Hb
  iintro Hb
  iapply Hk
  isplitl [Hx] <;> iassumption

/-- The weights, as the products read them. -/
def weights (c : Dev nD) : sProp 𝕄 :=
  iprop(holds c wqb fullShare (WQ m c) ∗ holds c wkb fullShare (WK m c) ∗ holds c wvb fullShare (WV m c) ∗ holds c wob fullShare (WO m c))

/-- The device's attention of its own batch. -/
theorem step_own (c : Dev nD) (q : PosShare TreeShare) (Q : PUnit → sProp 𝕄) :
    iprop(holds c xb q (X m c) ∗ weights m c ∗ free c outRef)
      ⊢ iprop((iprop(holds c xb q (X m c) ∗ weights m c ∗ holds c outRef fullShare (outTo m c 0)) -∗ Q ⟨⟩) -∗ WP c ownStep Q) := by
  unfold ownStep
  simp only [WP_bind]
  iintro ⟨Hx, Hw, Ho⟩ Hk
  ihave Ho := (free_eq c outRef) $$ Ho
  icases Ho with ⟨%W, Ho⟩
  iapply (WP_ldx c xb q (X m c) _) $$ Hx
  iintro Hx
  unfold weights
  icases Hw with ⟨Hwq, Hwk, Hwv, Hwo⟩
  iapply (WP_ldw c wqb fullShare (WQ m c) _) $$ Hwq
  iintro Hwq
  iapply (WP_ldw c wkb fullShare (WK m c) _) $$ Hwk
  iintro Hwk
  iapply (WP_ldw c wvb fullShare (WV m c) _) $$ Hwv
  iintro Hwv
  iapply (WP_ldw c wob fullShare (WO m c) _) $$ Hwo
  iintro Hwo
  iapply (WP_ld3 c outRef fullShare W _) $$ Ho
  iintro Ho
  iapply (WP_st3 c outRef (outTo m c 0) W _) $$ Ho
  iintro Ho
  iapply Hk
  isplitl [Hx]; · iexact Hx
  isplitr [Ho]
  · isplitl [Hwq]; · iexact Hwq
    isplitl [Hwk]; · iexact Hwk
    isplitl [Hwv]; · iexact Hwv
    iexact Hwo
  iexact Ho

/-- The device's attention of the mirror's batch. -/
theorem step_mirror (c : Dev nD) (q : PosShare TreeShare) (Q : PUnit → sProp 𝕄) :
    iprop(holds c mir q (X m (mirror c)) ∗ weights m c ∗ free c ownfar)
      ⊢ iprop((iprop(holds c mir q (X m (mirror c)) ∗ weights m c ∗ holds c ownfar fullShare (shareKept m c (mirror c))) -∗ Q ⟨⟩)
        -∗ WP c mirStep Q) := by
  unfold mirStep
  simp only [WP_bind]
  iintro ⟨Hx, Hw, Ho⟩ Hk
  ihave Ho := (free_eq c ownfar) $$ Ho
  icases Ho with ⟨%W, Ho⟩
  iapply (WP_ldx c mir q (X m (mirror c)) _) $$ Hx
  iintro Hx
  unfold weights
  icases Hw with ⟨Hwq, Hwk, Hwv, Hwo⟩
  iapply (WP_ldw c wqb fullShare (WQ m c) _) $$ Hwq
  iintro Hwq
  iapply (WP_ldw c wkb fullShare (WK m c) _) $$ Hwk
  iintro Hwk
  iapply (WP_ldw c wvb fullShare (WV m c) _) $$ Hwv
  iintro Hwv
  iapply (WP_ldw c wob fullShare (WO m c) _) $$ Hwo
  iintro Hwo
  iapply (WP_ldx c ownfar fullShare W _) $$ Ho
  iintro Ho
  iapply (WP_stx c ownfar _ (shareKept m c (mirror c)) W _) $$ Ho
  iintro Ho
  iapply Hk
  isplitl [Hx]; · iexact Hx
  isplitr [Ho]
  · isplitl [Hwq]; · iexact Hwq
    isplitl [Hwk]; · iexact Hwk
    isplitl [Hwv]; · iexact Hwv
    iexact Hwo
  iexact Ho

/-! ## The payloads and the credits of the copies -/

theorem pay_bar (c : Dev nD) (k : Fin 7) : pay m (fwd k c) bar (some k)
    = iprop(free (F := F) c (slot3 near (rev k)) ∗ free (F := F) c (slot3 far (rev k)) ∗ free (F := F) c (slot4 combo k)) := by
  have h := fwd_rev_fwd k c
  show iprop(free (F := F) (fwd (rev k) (fwd k c)) (slot3 near (rev k)) ∗ free (F := F) (fwd (rev k) (fwd k c)) (slot3 far (rev k))
        ∗ free (F := F) (fwd (rev k) (fwd k c)) (slot4 combo k)) = _
  rw [h]
theorem pay_barMirror (c : Dev nD) : pay m (mirror c) bar none = iprop(free (F := F) c mir ∗ free (F := F) c pacc) := by
  show iprop(free (F := F) (mirror (mirror c)) mir ∗ free (F := F) (mirror (mirror c)) pacc) = _
  rw [mirror_mirror]
theorem pay_rxMir (c : Dev nD) : pay m (mirror c) rxMir none = holds (mirror c) mir fullShare (X m c) := by
  show holds (mirror c) mir fullShare (X m (mirror (mirror c))) = _
  rw [mirror_mirror]
theorem pay_rpFs (c : Dev nD) : pay m (mirror c) rpFs none = holds (mirror c) pacc fullShare (sumOf m c) := by
  show holds (mirror c) pacc fullShare (sumOf m (mirror (mirror c))) = _
  rw [mirror_mirror]
theorem pay_rxNear (c : Dev nD) (k : Fin 7) : pay m (fwd k c) (rxNear k) none = holds (fwd k c) (slot3 near k) fullShare (X m c) := by
  show holds (fwd k c) (slot3 near k) fullShare (X m (fwd (rev k) (fwd k c))) = _
  rw [fwd_rev_fwd]
theorem pay_rxFar (c : Dev nD) (k : Fin 7) : pay m (fwd k c) (rxFar k) none = holds (fwd k c) (slot3 far k) fullShare (X m (mirror c)) := by
  show holds (fwd k c) (slot3 far k) fullShare (X m (mirror (fwd (rev k) (fwd k c)))) = _
  rw [fwd_rev_fwd]
theorem pay_rpComb (c : Dev nD) (k : Fin 7) : pay m (fwd (rev k) c) (rpComb k) none
    = pair (fwd (rev k) c) combo k (shareHalf m c (fwd (rev k) c)) (shareHalf m c (mirror (fwd (rev k) c))) := by
  show pair (fwd (rev k) c) combo k (shareHalf m (fwd k (fwd (rev k) c)) (fwd (rev k) c)) (shareHalf m (fwd k (fwd (rev k) c)) (mirror (fwd (rev k) c))) = _
  rw [fwd_fwd_rev]
theorem pay_sxMir (c : Dev nD) : pay m c sxMir none = holds c xb (loan 7) (X m c) := rfl
theorem pay_sxNear (c : Dev nD) (k : Fin 7) : pay m c (sxNear k) none = holds c xb (loan k.val) (X m c) := rfl
theorem pay_sRelay (c : Dev nD) (k : Fin 7) : pay m c (sRelay k) none = holds c mir (loan k.val) (X m (mirror c)) := rfl
theorem pay_spComb (c : Dev nD) (k : Fin 7) : pay m c (spComb k) none = free (F := F) c (slot4 stage k) := rfl
theorem pay_spFs (c : Dev nD) : pay m c spFs none = free (F := F) c fsum := rfl

theorem credit_mir : (mir : Memref sig .tc .vmem S256x1024 .bf16).view.dmaCredit = amt rxMir := rfl
theorem credit_xb : (xb : Memref sig .tc .vmem S256x1024 .bf16).view.dmaCredit = amt sxMir := rfl
theorem credit_near (k : Fin 7) : (slot3 near k).view.dmaCredit = amt (rxNear k) := rfl
theorem credit_far (k : Fin 7) : (slot3 far k).view.dmaCredit = amt (rxFar k) := rfl
theorem credit_combo (k : Fin 7) : (slot4 combo k).view.dmaCredit = amt (rpComb k) := rfl
theorem credit_pacc : (pacc : Memref sig .tc .vmem S256x1024 .bf16).view.dmaCredit = amt rpFs := rfl
theorem credit_sNear (k : Fin 7) : (xb : Memref sig .tc .vmem S256x1024 .bf16).view.dmaCredit = amt (sxNear k) := rfl
theorem credit_sRelay (k : Fin 7) : (mir : Memref sig .tc .vmem S256x1024 .bf16).view.dmaCredit = amt (sRelay k) := rfl
theorem credit_stage (k : Fin 7) : (slot4 stage k).view.dmaCredit = amt (spComb k) := rfl
theorem credit_fsum : (fsum : Memref sig .tc .vmem S256x1024 .bf16).view.dmaCredit = amt spFs := rfl

/-! ## Signals and sends -/

/-- What the `k`-th peer is given with the signal: the slots of this device it will write. -/
def slots (c : Dev nD) (k : Fin 7) : sProp 𝕄 :=
  iprop(free (F := F) c (slot3 near (rev k)) ∗ free (F := F) c (slot3 far (rev k)) ∗ free (F := F) c (slot4 combo k))

theorem step_signal (c : Dev nD) (k : Fin 7) :
    iprop(records m K ∗ (tok (fwd k c) bar (some k) ∗ slots c k) ∗ owing c (oBar c k.val))
      ⊢ WP c (signal c k) fun _ => iprop(emp ∗ owing c (oBar c (k.val + 1))) := by
  iintro ⟨#HR, ⟨Ht, Hs⟩, HO⟩
  unfold signal
  iapply (WP_signal m K c (fwd k c) (devSig k c) (devSig_eq k c) (some k) (oBar c (k.val + 1)) _) $$ [Ht Hs HO]
  · isplitr; · iexact HR
    isplitl [HO]; · iapply (owing_step c (oBarM c) (dBar c) k); iexact HO
    isplitl [Ht]; · iexact Ht
    iapply (Entails.of_eq (pay_bar m c k).symm)
    unfold slots
    iexact Hs
  iintro HO
  isplitr; · iempintro
  iexact HO

theorem step_signalMirror (c : Dev nD) (Q : PUnit → sProp 𝕄) :
    iprop(records m K ∗ tok (mirror c) bar none ∗ (free (F := F) c mir ∗ free (F := F) c pacc) ∗ owing c (oBarM c))
      ⊢ iprop((owing c (oMir c) -∗ Q ⟨⟩) -∗ WP c (semSignalWord (mirror c) barrier 1#32) Q) := by
  iintro ⟨#HR, Ht, Hs, HO⟩ Hk
  iapply (WP_signal m K c (mirror c) (mirror c) rfl none (oMir c) _) $$ [Ht Hs HO]
  · isplitr; · iexact HR
    isplitl [HO]; · iexact HO
    isplitl [Ht]; · iexact Ht
    iapply (Entails.of_eq (pay_barMirror m c).symm)
    iexact Hs
  iexact Hk

/-- The slots this device may write, once all have signalled. -/
def ready (c : Dev nD) (k : Fin 7) : sProp 𝕄 :=
  iprop(free (F := F) (fwd (rev k) c) (slot3 near (rev k)) ∗ free (F := F) (fwd (rev k) c) (slot3 far (rev k))
    ∗ free (F := F) (fwd (rev k) c) (slot4 combo k))

theorem bigSep_duty (Φ : Duty → sProp 𝕄) : bigSep Finset.univ Φ = iprop(bigSep Finset.univ (fun k : Fin 7 => Φ (some k)) ∗ Φ none) := by
  rw [bigSep_univ_equiv (Equiv.optionEquivSumPUnit (Fin 7)).symm Φ, bigSep_univ_sum]
  refine congrArg₂ _ rfl ?_
  rw [show (Finset.univ : Finset PUnit.{1}) = {PUnit.unit} from rfl, bigSep_singleton]
  rfl

theorem step_barrier (c : Dev nD) (Q : PUnit → sProp 𝕄) :
    iprop(records m K ∗ crd c bar ∗ owing c (oMir c) ∗ pos c bar)
      ⊢ iprop((iprop(owing c (oMir c) ∗ zero c bar ∗ (bigSep Finset.univ fun k : Fin 7 => ready (F := F) c k)
          ∗ free (F := F) (mirror c) mir ∗ free (F := F) (mirror c) pacc) -∗ Q ⟨⟩) -∗ WP c (semWaitWord barrier 8#32) Q) := by
  have h := WP_wait m K c bar (sm := .reg barrier) rfl (wpE_semWait_eq 𝒱₀ (c : Thread nD τ) none Set.univ (k := (8#32).toInt.toNat)) (by decide) (oMir c)
    (above_oMir c (by decide)) Q
  rw [show dutiesOf bar = Finset.univ from rfl, bigSep_duty] at h
  exact h

theorem step_sendMir (c : Dev nD) (Q : PUnit → sProp 𝕄) :
    iprop(records m K ∗ holds c xb (loan 7) (X m c) ∗ free (F := F) (mirror c) mir ∗ owing c (oMir c) ∗ tok c sxMir none ∗ tok (mirror c) rxMir none)
      ⊢ iprop((iprop(crd c sxMir ∗ owing c (oNear c 0)) -∗ Q ⟨⟩) -∗ WP c (sendMir c) Q) := by
  unfold sendMir
  exact WP_sendHolds m K c (mirror c) _ (dev9_eq c) sxMir rxMir (src := xb) (dst := mir) rfl rfl rfl rfl credit_mir rfl (loan 7) (X m c) (Entails.of_eq (pay_sxMir m c).symm)
    (Entails.of_eq (pay_rxMir m c).symm) (oNear c 0) Q

theorem step_sendNear (c : Dev nD) (k : Fin 7) :
    iprop(records m K ∗ (holds c xb (loan k.val) (X m c) ∗ free (F := F) (fwd k c) (slot3 near k) ∗ tok c (sxNear k) none ∗ tok (fwd k c) (rxNear k) none)
        ∗ owing c (oNear c k.val))
      ⊢ WP c (sendNear c k) fun _ => iprop(crd c (sxNear k) ∗ owing c (oNear c (k.val + 1))) := by
  iintro ⟨#HR, ⟨Hx, Hf, Htx, Hty⟩, HO⟩
  unfold sendNear
  iapply (WP_sendHolds m K c (fwd k c) _ (devNear_eq k c) (sxNear k) (rxNear k) (src := xb) (dst := slot3 near k) rfl rfl rfl rfl (credit_near k) rfl (loan k.val) (X m c)
    (Entails.of_eq (pay_sxNear m c k).symm) (Entails.of_eq (pay_rxNear m c k).symm) (oNear c (k.val + 1)) _) $$ [Hx Hf Htx Hty HO]
  · isplitr; · iexact HR
    isplitl [Hx]; · iexact Hx
    isplitl [Hf]; · iexact Hf
    isplitl [HO]; · iapply (owing_step c (oFar c 0) (dNear c) k); iexact HO
    isplitl [Htx]; · iexact Htx
    iexact Hty
  iintro H; iexact H

theorem step_relay (c : Dev nD) (k : Fin 7) :
    iprop(records m K ∗ (holds c mir (loan k.val) (X m (mirror c)) ∗ free (F := F) (fwd k c) (slot3 far k) ∗ tok c (sRelay k) none ∗ tok (fwd k c) (rxFar k) none)
        ∗ owing c (oFar c k.val))
      ⊢ WP c (relay c k) fun _ => iprop(crd c (sRelay k) ∗ owing c (oFar c (k.val + 1))) := by
  iintro ⟨#HR, ⟨Hx, Hf, Htx, Hty⟩, HO⟩
  unfold relay
  iapply (WP_sendHolds m K c (fwd k c) _ (devRelay_eq k c) (sRelay k) (rxFar k) (src := mir) (dst := slot3 far k) rfl rfl rfl rfl (credit_far k) rfl (loan k.val) (X m (mirror c))
    (Entails.of_eq (pay_sRelay m c k).symm) (Entails.of_eq (pay_rxFar m c k).symm) (oFar c (k.val + 1)) _) $$ [Hx Hf Htx Hty HO]
  · isplitr; · iexact HR
    isplitl [Hx]; · iexact Hx
    isplitl [Hf]; · iexact Hf
    isplitl [HO]; · iapply (owing_step c (oComb c 0) (dFar c) k); iexact HO
    isplitl [Htx]; · iexact Htx
    iexact Hty
  iintro H; iexact H

theorem step_sendSum (c : Dev nD) (Q : PUnit → sProp 𝕄) :
    iprop(records m K ∗ holds c fsum fullShare (sumOf m c) ∗ free (F := F) (mirror c) pacc ∗ owing c (oSum c) ∗ tok c spFs none ∗ tok (mirror c) rpFs none)
      ⊢ iprop((iprop(crd c spFs ∗ owing c 0) -∗ Q ⟨⟩) -∗ WP c (sendSum c) Q) := by
  unfold sendSum
  exact WP_sendHolds m K c (mirror c) _ (dev31_eq c) spFs rpFs (src := fsum) (dst := pacc) rfl rfl rfl rfl credit_pacc rfl fullShare (sumOf m c)
    (BIBase.Entails.trans (holds_free c fsum _) (Entails.of_eq (pay_spFs m c).symm)) (Entails.of_eq (pay_rpFs m c).symm) 0 Q

/-! ## Waits -/

theorem step_waitMir (c : Dev nD) (Q : PUnit → sProp 𝕄) :
    iprop(records m K ∗ crd c rxMir ∗ owing c (oFar c 0) ∗ pos c rxMir)
      ⊢ iprop((iprop(owing c (oFar c 0) ∗ zero c rxMir ∗ holds c mir fullShare (X m (mirror c))) -∗ Q ⟨⟩) -∗ WP c waitMir Q) := by
  unfold waitMir
  exact WP_waitDma m K c rxMir (src := mir) (dst := mir) rfl rfl credit_mir (oFar c 0) (above_oFar c 0 (by decide)) Q

theorem step_waitSum (c : Dev nD) (Q : PUnit → sProp 𝕄) :
    iprop(records m K ∗ crd c rpFs ∗ owing c 0 ∗ pos c rpFs)
      ⊢ iprop((iprop(owing c 0 ∗ zero c rpFs ∗ holds c pacc fullShare (sumOf m (mirror c))) -∗ Q ⟨⟩) -∗ WP c waitSum Q) := by
  unfold waitSum
  exact WP_waitDma m K c rpFs (src := pacc) (dst := pacc) rfl rfl credit_pacc 0 (above_zero _) Q

theorem step_drainMir (c : Dev nD) (Q : PUnit → sProp 𝕄) :
    iprop(records m K ∗ crd c sxMir ∗ owing c 0 ∗ pos c sxMir)
      ⊢ iprop((iprop(owing c 0 ∗ zero c sxMir ∗ holds c xb (loan 7) (X m c)) -∗ Q ⟨⟩) -∗ WP c drainMir Q) := by
  unfold drainMir
  exact WP_waitDma m K c sxMir (src := mir) (dst := xb) rfl rfl credit_xb 0 (above_zero _) Q

theorem step_drainSum (c : Dev nD) (Q : PUnit → sProp 𝕄) :
    iprop(records m K ∗ crd c spFs ∗ owing c 0 ∗ pos c spFs)
      ⊢ iprop((iprop(owing c 0 ∗ zero c spFs ∗ free c fsum) -∗ Q ⟨⟩) -∗ WP c drainSum Q) := by
  unfold drainSum
  exact WP_waitDma m K c spFs (src := pacc) (dst := fsum) rfl rfl credit_fsum 0 (above_zero _) Q

theorem step_drainNear (c : Dev nD) (k : Fin 7) :
    iprop(records m K ∗ (crd c (sxNear k) ∗ pos c (sxNear k)) ∗ owing c 0)
      ⊢ WP c (drain3 cc0_scratch13 near (Memref.isWhole_whole _) xb (Memref.isWhole_whole _) k)
          fun _ => iprop((zero c (sxNear k) ∗ holds c xb (loan k.val) (X m c)) ∗ owing c 0) := by
  iintro ⟨#HR, ⟨Hc, Hp⟩, HO⟩
  unfold drain3
  iapply (WP_waitDma m K c (sxNear k) (src := slot3 near k) (dst := xb) rfl rfl (credit_sNear k) 0 (above_zero _) _) $$ [Hc Hp HO]
  · isplitr; · iexact HR
    isplitl [Hc]; · iexact Hc
    isplitl [HO] <;> iassumption
  iintro ⟨HO, Hz, Hp⟩
  isplitr [HO]
  · isplitl [Hz]; · iexact Hz
    iapply (Entails.of_eq (pay_sxNear m c k)); iexact Hp
  iexact HO

theorem step_drainFar (c : Dev nD) (k : Fin 7) :
    iprop(records m K ∗ (crd c (sRelay k) ∗ pos c (sRelay k)) ∗ owing c 0)
      ⊢ WP c (drain3 cc0_scratch17 far (Memref.isWhole_whole _) mir (Memref.isWhole_whole _) k)
          fun _ => iprop((zero c (sRelay k) ∗ holds c mir (loan k.val) (X m (mirror c))) ∗ owing c 0) := by
  iintro ⟨#HR, ⟨Hc, Hp⟩, HO⟩
  unfold drain3
  iapply (WP_waitDma m K c (sRelay k) (src := slot3 far k) (dst := mir) rfl rfl (credit_sRelay k) 0 (above_zero _) _) $$ [Hc Hp HO]
  · isplitr; · iexact HR
    isplitl [Hc]; · iexact Hc
    isplitl [HO] <;> iassumption
  iintro ⟨HO, Hz, Hp⟩
  isplitr [HO]
  · isplitl [Hz]; · iexact Hz
    iapply (Entails.of_eq (pay_sRelay m c k)); iexact Hp
  iexact HO

theorem step_drain4 (c : Dev nD) (k : Fin 7) :
    iprop(records m K ∗ (crd c (spComb k) ∗ pos c (spComb k)) ∗ owing c 0)
      ⊢ WP c (drain4 k) fun _ => iprop((zero c (spComb k) ∗ free (F := F) c (slot4 stage k)) ∗ owing c 0) := by
  iintro ⟨#HR, ⟨Hc, Hp⟩, HO⟩
  unfold drain4
  iapply (WP_waitDma m K c (spComb k) (src := slot4 combo k) (dst := slot4 stage k) rfl rfl (credit_stage k) 0 (above_zero _) _) $$ [Hc Hp HO]
  · isplitr; · iexact HR
    isplitl [Hc]; · iexact Hc
    isplitl [HO] <;> iassumption
  iintro ⟨HO, Hz, Hp⟩
  isplitr [HO]
  · isplitl [Hz]; · iexact Hz
    iapply (Entails.of_eq (pay_spComb m c k)); iexact Hp
  iexact HO

/-! ## The pairs -/

/-- A batch `Y` of a peer received in slot `k` of `b` and attended: half `i` of pair `k` is this device's share of it. -/
theorem step_peer (c : Dev nD) (x : Cell) (a : DmaSems sig S7) (b : Memref sig .tc .vmem S7x256x1024 .bf16) (hb : b.IsWhole) (i : Fin 2) (k : Fin 7)
    (e : Dev nD) (hsm : SemLoc.dma (sem7 a k) = x.sem) (hx : dutiesOf x = {none}) (hk : (slot3 b k).view.dmaCredit = amt x)
    (hp : pay m c x none = holds c (slot3 b k) fullShare (X m e)) (O : CellTallies nD τ sig Unit) (hO : Above (lvl x) O)
    (f : Buf (Elt F) ((slot4 stage k).view.loc (c : Thread nD τ))) (Q : PUnit → sProp 𝕄) :
    iprop(records m K ∗ crd c x ∗ owing c O ∗ pos c x ∗ weights m c
        ∗ ((slot4 stage k).view.loc (c : Thread nD τ) ↦[(slot4 stage k).view.set]{fullShare} f))
      ⊢ iprop((iprop(owing c O ∗ zero c x ∗ holds c (slot3 b k) fullShare (X m e) ∗ weights m c
          ∗ ((slot4 stage k).view.loc (c : Thread nD τ) ↦[(slot4 stage k).view.set]{fullShare}
              ((stage.view.slice (half k i)).write (Elt F) f (shareHalf m c e) Finset.univ))) -∗ Q ⟨⟩)
        -∗ WP c (peerStep a b hb i k) Q) := by
  unfold peerStep
  simp only [WP_bind]
  iintro ⟨#HR, Hc, HO, Hp, Hw, Hs⟩ Hk
  iapply (WP_waitDma m K c x hsm hx hk O hO _) $$ [Hc HO Hp]
  · isplitr; · iexact HR
    isplitl [Hc]; · iexact Hc
    isplitl [HO] <;> iassumption
  rw [hp]
  iintro ⟨HO, Hz, Hx⟩
  iapply (WP_ldSlot c b k fullShare (X m e) _) $$ Hx
  iintro %v %hv Hx
  unfold weights
  icases Hw with ⟨Hwq, Hwk, Hwv, Hwo⟩
  iapply (WP_ldw c wqb fullShare (WQ m c) _) $$ Hwq
  iintro Hwq
  iapply (WP_ldw c wkb fullShare (WK m c) _) $$ Hwk
  iintro Hwk
  iapply (WP_ldw c wvb fullShare (WV m c) _) $$ Hwv
  iintro Hwv
  iapply (WP_ldw c wob fullShare (WO m c) _) $$ Hwo
  iintro Hwo
  iapply (WP_ldHalf c stage k i f _) $$ Hs
  iintro Hs
  rw [hv]
  iapply (WP_stHalf c stage _ k i (shareHalf m c e) f _) $$ Hs
  iintro Hs
  iapply Hk
  isplitl [HO]; · iexact HO
  isplitl [Hz]; · iexact Hz
  isplitl [Hx]; · iexact Hx
  isplitr [Hs]
  · isplitl [Hwq]; · iexact Hwq
    isplitl [Hwk]; · iexact Hwk
    isplitl [Hwv]; · iexact Hwv
    iexact Hwo
  iexact Hs

/-- The contents of the staged pair once both halves are in. -/
def pairWritten (c : Dev nD) (k : Fin 7) (f : stage.view.ty.Contents (Elt F)) : stage.view.ty.Contents (Elt F) :=
  (stage.view.slice (half k 1)).write (Elt F)
    ((stage.view.slice (half k 0)).write (Elt F) f (shareHalf m c (fwd (rev k) c)) Finset.univ) (shareHalf m c (mirror (fwd (rev k) c))) Finset.univ

theorem pair_sent (c : Dev nD) (k : Fin 7) (f : stage.view.ty.Contents (Elt F)) :
    ((slot4 stage k).view.loc (c : Thread nD τ) ↦[(slot4 stage k).view.set]{fullShare} (pairWritten m c k f) : sProp 𝕄) ⊢ pay m c (spComb k) none := by
  rw [pay_spComb]
  unfold free
  iintro H; iexists _; iexact H

theorem pair_landed (c : Dev nD) (k : Fin 7) (f : stage.view.ty.Contents (Elt F)) (fd : combo.view.ty.Contents (Elt F)) :
    ((slot4 combo k).view.loc (fwd (rev k) c : Thread nD τ) ↦[(slot4 combo k).view.set]{fullShare}
        ((slot4 combo k).view.write (Elt F) fd ((slot4 stage k).view.read (Elt F) (pairWritten m c k f)) Finset.univ) : sProp 𝕄)
      ⊢ pay m (fwd (rev k) c) (rpComb k) none := by
  rw [pay_rpComb]
  unfold pair
  iintro H
  iexists ((slot4 combo k).view.write (Elt F) fd ((slot4 stage k).view.read (Elt F) (pairWritten m c k f)) Finset.univ)
  isplitr
  · ipureintro
    exact ⟨(pair_copied k 0 _ fd).trans ((half_kept stage k _ _).trans (half_written stage k 0 f _)),
      (pair_copied k 1 _ fd).trans (half_written stage k 1 _ _)⟩
  iexact H

theorem step_pair (c : Dev nD) (k : Fin 7) :
    iprop(records m K
        ∗ (crd c (rxNear k) ∗ pos c (rxNear k) ∗ crd c (rxFar k) ∗ pos c (rxFar k) ∗ free (F := F) c (slot4 stage k)
          ∗ free (F := F) (fwd (rev k) c) (slot4 combo k) ∗ tok c (spComb k) none ∗ tok (fwd (rev k) c) (rpComb k) none)
        ∗ weights m c ∗ owing c (oComb c k.val))
      ⊢ WP c (pairStep c k) fun _ =>
          iprop((zero c (rxNear k) ∗ zero c (rxFar k) ∗ free (F := F) c (slot3 near k) ∗ free (F := F) c (slot3 far k) ∗ crd c (spComb k))
            ∗ weights m c ∗ owing c (oComb c (k.val + 1))) := by
  iintro ⟨#HR, ⟨Hcn, Hpn, Hcf, Hpf, Hs, Hd, Htx, Hty⟩, Hw, HO⟩
  unfold pairStep
  simp only [WP_bind]
  ihave Hs := (show (free (F := F) c (slot4 stage k) : sProp 𝕄) ⊢ iprop(∃ f, (slot4 stage k).view.loc (c : Thread nD τ)
    ↦[(slot4 stage k).view.set]{fullShare} f) from BIBase.Entails.rfl) $$ Hs
  icases Hs with ⟨%f, Hs⟩
  iapply (step_peer m K c (rxNear k) cc0_scratch14 near _ 0 k (fwd (rev k) c) rfl rfl (credit_near k) rfl (oComb c k.val) (above_oComb c _ (by show 2 < 4; decide)) f _)
    $$ [Hcn Hpn HO Hw Hs]
  · isplitr; · iexact HR
    isplitl [Hcn]; · iexact Hcn
    isplitl [HO]; · iexact HO
    isplitl [Hpn]; · iexact Hpn
    isplitl [Hw] <;> iassumption
  iintro ⟨HO, Hzn, Hn, Hw, Hs⟩
  iapply (step_peer m K c (rxFar k) cc0_scratch18 far _ 1 k (mirror (fwd (rev k) c)) rfl rfl (credit_far k) rfl (oComb c k.val) (above_oComb c _ (by show 3 < 4; decide)) _ _)
    $$ [Hcf Hpf HO Hw Hs]
  · isplitr; · iexact HR
    isplitl [Hcf]; · iexact Hcf
    isplitl [HO]; · iexact HO
    isplitl [Hpf]; · iexact Hpf
    isplitl [Hw] <;> iassumption
  iintro ⟨HO, Hzf, Hf, Hw, Hs⟩
  unfold sendBack
  iapply (WP_send m K c (fwd (rev k) c) _ (devBack_eq k c) (spComb k) (rpComb k) (src := slot4 stage k) (dst := slot4 combo k) rfl rfl rfl rfl
    (credit_combo k) rfl (pairWritten m c k f) (pair_sent m c k f) (pair_landed m c k f) (oComb c (k.val + 1)) _)
    $$ [Hs Hd HO Htx Hty]
  · isplitr; · iexact HR
    isplitl [Hs]; · iexact Hs
    isplitl [Hd]; · iexact Hd
    isplitl [HO]; · iapply (owing_step c (oSum c) (dComb c) k); iexact HO
    isplitl [Htx]; · iexact Htx
    iexact Hty
  iintro ⟨Hcc, HO⟩
  isplitr [Hw HO]
  · isplitl [Hzn]; · iexact Hzn
    isplitl [Hzf]; · iexact Hzf
    isplitl [Hn]; · iapply (holds_free c (slot3 near k) _); iexact Hn
    isplitl [Hf]; · iapply (holds_free c (slot3 far k) _); iexact Hf
    iexact Hcc
  isplitl [Hw] <;> iassumption

/-! ## The sums -/

/-- The pair the `k`-th peer returned. -/
abbrev returned (c : Dev nD) (k : Fin 7) : sProp 𝕄 := pair c combo k (shareHalf m (fwd k c) c) (shareHalf m (fwd k c) (mirror c))

theorem step_sum (c : Dev nD) (k : Fin 7) (a : FVec F S256x1024 .f32) :
    iprop(records m K ∗ (crd c (rpComb k) ∗ pos c (rpComb k)) ∗ (⌜a = sumTo m c k.val⌝ ∗ owing c (oSum c)))
      ⊢ WP c (sumStep k a) fun a' => iprop((zero c (rpComb k) ∗ returned m c k) ∗ (⌜a' = sumTo m c (k.val + 1)⌝ ∗ owing c (oSum c))) := by
  iintro ⟨#HR, ⟨Hc, Hp⟩, %ha, HO⟩
  subst ha
  unfold sumStep
  simp only [WP_bind]
  iapply (WP_waitDma m K c (rpComb k) (src := slot4 combo k) (dst := slot4 combo k) rfl rfl (credit_combo k) (oSum c)
    (above_oSum c (by show 4 < 5; decide)) _) $$ [Hc Hp HO]
  · isplitr; · iexact HR
    isplitl [Hc]; · iexact Hc
    isplitl [HO] <;> iassumption
  iintro ⟨HO, Hz, Hp⟩
  ihave Hp := (show pay m c (rpComb k) none ⊢ iprop(∃ f, ⌜combo.view.readAt (Elt F) (half k 0).toLoadRect f = shareHalf m (fwd k c) c
      ∧ combo.view.readAt (Elt F) (half k 1).toLoadRect f = shareHalf m (fwd k c) (mirror c)⌝
    ∗ ((slot4 combo k).view.loc (c : Thread nD τ) ↦[(slot4 combo k).view.set]{fullShare} f)) from BIBase.Entails.rfl) $$ Hp
  icases Hp with ⟨%f, %hf, Hp⟩
  iapply (WP_ldHalf c combo k 1 f _) $$ Hp
  iintro Hp
  rw [hf.2]
  simp only [Prog.pure_eq_ret, wp_ret]
  imodintro
  isplitr [HO]
  · isplitl [Hz]; · iexact Hz
    unfold returned pair
    iexists f
    isplitr; · ipureintro; exact hf
    iexact Hp
  isplitr; · ipureintro; exact (sumTo_succ m c k).symm
  iexact HO

theorem step_sumAll (c : Dev nD) (Q : PUnit → sProp 𝕄) :
    iprop(records m K ∗ (bigSep Finset.univ fun k : Fin 7 => iprop(crd c (rpComb k) ∗ pos c (rpComb k)))
        ∗ owing c (oSum c) ∗ holds c ownfar fullShare (shareKept m c (mirror c)) ∗ free (F := F) c fsum)
      ⊢ iprop((iprop((bigSep Finset.univ fun k : Fin 7 => iprop(zero c (rpComb k) ∗ returned m c k))
          ∗ owing c (oSum c) ∗ holds c ownfar fullShare (shareKept m c (mirror c)) ∗ holds c fsum fullShare (sumOf m c)) -∗ Q ⟨⟩)
        -∗ WP c sumAll Q) := by
  unfold sumAll
  simp only [WP_bind]
  iintro ⟨#HR, HC, HO, Ho, Hf⟩ Hk
  ihave Hf := (free_eq c fsum) $$ Hf
  icases Hf with ⟨%W, Hf⟩
  iapply (WP_ldx c ownfar fullShare (shareKept m c (mirror c)) _) $$ Ho
  iintro Ho
  iapply (WP_wand c (seven' sumStep _) _ _) $$ [HC HO]
  · iapply (WP_seven' c sumStep (P := records m K) (I := fun n a => iprop(⌜a = sumTo m c n⌝ ∗ owing c (oSum c))) (step_sum m K c) _) $$ [HC HO]
    isplitr; · iexact HR
    isplitl [HC]; · iexact HC
    isplitr; · ipureintro; rfl
    iexact HO
  iintro %a ⟨HC, %ha, HO⟩
  subst ha
  iapply (WP_ldx c fsum fullShare W _) $$ Hf
  iintro Hf
  iapply (WP_stx c fsum _ (sumOf m c) W _) $$ Hf
  iintro Hf
  iapply Hk
  isplitl [HC]; · iexact HC
  isplitl [HO]; · iexact HO
  isplitl [Ho] <;> iassumption

theorem step_acc (c : Dev nD) (k : Fin 7) :
    iprop(records m K ∗ returned m c k ∗ holds c outRef fullShare (outTo m c k.val))
      ⊢ WP c (accStep k) fun _ => iprop(free (F := F) c (slot4 combo k) ∗ holds c outRef fullShare (outTo m c (k.val + 1))) := by
  unfold accStep returned pair
  simp only [WP_bind]
  iintro ⟨#HR, ⟨%f, %hf, Hp⟩, Ho⟩
  iapply (WP_ld3 c outRef fullShare (outTo m c k.val) _) $$ Ho
  iintro Ho
  iapply (WP_ldHalf c combo k 0 f _) $$ Hp
  iintro Hp
  rw [hf.1]
  iapply (WP_ld3 c outRef fullShare (outTo m c k.val) _) $$ Ho
  iintro Ho
  iapply (WP_st3 c outRef _ (outTo m c k.val) _) $$ Ho
  iintro Ho
  rw [outTo_succ]
  isplitl [Hp]
  · unfold free; iexists f; iexact Hp
  iexact Ho

theorem step_accSum (c : Dev nD) (Q : PUnit → sProp 𝕄) :
    iprop(holds c outRef fullShare (outTo m c 7) ∗ holds c pacc fullShare (sumOf m (mirror c)))
      ⊢ iprop((iprop(holds c outRef fullShare (outAt m c) ∗ free (F := F) c pacc) -∗ Q ⟨⟩) -∗ WP c accSum Q) := by
  unfold accSum
  simp only [WP_bind]
  iintro ⟨Ho, Hp⟩ Hk
  iapply (WP_ld3 c outRef fullShare (outTo m c 7) _) $$ Ho
  iintro Ho
  iapply (WP_ldx c pacc fullShare (sumOf m (mirror c)) _) $$ Hp
  iintro Hp
  iapply (WP_ld3 c outRef fullShare (outTo m c 7) _) $$ Ho
  iintro Ho
  iapply (WP_st3 c outRef (outAt m c) (outTo m c 7) _) $$ Ho
  iintro Ho
  iapply Hk
  isplitl [Ho]; · iexact Ho
  iapply (holds_free c pacc _); iexact Hp

end Cert.Heads

end
-- ==== Proof.Body.lean ====
/-
# The body

The steps of `Peers` in program order, from what the launch hands a device to the result, with every semaphore closed and every
buffer whole again.
-/
module

public import proofs.«01_k».proof.Proof.Peers

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cell

variable {F : FTy → Type} [FloatOps F]

local notation "𝕄" => MT nD τ sig Unit (Elt F) ℕ UU ℕ

variable (m : (ℓ : Loc nD τ sig) → Buf (Elt F) ℓ) (K : Dev nD × Cell → ℕ)

/-! ## Resources cell by cell -/

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Over the cells: five single ones and six families of seven. -/
theorem bigSep_cell (Φ : Cell → sProp 𝕄) : bigSep Finset.univ Φ
    = iprop((Φ bar ∗ Φ sxMir ∗ Φ rxMir ∗ Φ spFs ∗ Φ rpFs)
      ∗ (bigSep Finset.univ fun k : Fin 7 => Φ (sxNear k)) ∗ (bigSep Finset.univ fun k : Fin 7 => Φ (rxNear k))
      ∗ (bigSep Finset.univ fun k : Fin 7 => Φ (sRelay k)) ∗ (bigSep Finset.univ fun k : Fin 7 => Φ (rxFar k))
      ∗ (bigSep Finset.univ fun k : Fin 7 => Φ (spComb k)) ∗ (bigSep Finset.univ fun k : Fin 7 => Φ (rpComb k))) := by
  rw [bigSep_univ_equiv Cell.equiv.symm Φ, bigSep_univ_sum, bigSep_univ_prod, bigSep_five, bigSep_six]
  rfl

/-- A family counted the other way round. -/
theorem bigSep_rev (Φ : Fin 7 → sProp 𝕄) : bigSep Finset.univ Φ = bigSep Finset.univ fun k : Fin 7 => Φ (rev k) :=
  bigSep_univ_equiv Fin.revPerm Φ

/-- Credits a device starts with: a cell's whole round, where others pay it. -/
def credOf (c : Dev nD) (x : Cell) : sProp 𝕄 := match own x with
  | true => iprop(emp)
  | false => crd c x
/-- The tokens of the duties a device pays at a cell. -/
def toksOf (c : Dev nD) (x : Cell) : sProp 𝕄 := bigSep (dutiesOf x) fun d => tok (route x d c) x d

/-- The thirteen scratch buffers, at anything. -/
def scratch (c : Dev nD) : sProp 𝕄 :=
  iprop(free (F := F) c xb ∗ free (F := F) c wqb ∗ free (F := F) c wkb ∗ free (F := F) c wvb ∗ free (F := F) c wob
    ∗ free (F := F) c near ∗ free (F := F) c far ∗ free (F := F) c mir ∗ free (F := F) c stage ∗ free (F := F) c ownfar
    ∗ free (F := F) c combo ∗ free (F := F) c fsum ∗ free (F := F) c pacc)

/-- The five staged inputs, at what the device holds. -/
def inputs (c : Dev nD) : sProp 𝕄 :=
  iprop(holds c xRef fullShare (xIn m c) ∗ holds c wqRef fullShare (wqIn m c) ∗ holds c woRef fullShare (woIn m c)
    ∗ holds c wkRef fullShare (wkIn m c) ∗ holds c wvRef fullShare (wvIn m c))

def before (c : Dev nD) : sProp 𝕄 :=
  iprop(bigSep Finset.univ (pos (F := F) c) ∗ bigSep Finset.univ (toksOf (F := F) c) ∗ bigSep Finset.univ (credOf (F := F) c) ∗ scratch (F := F) c
    ∗ owing c (oBar c 0) ∗ inputs m c ∗ free (F := F) c outRef)
def after (c : Dev nD) : sProp 𝕄 :=
  iprop(bigSep Finset.univ (zero (F := F) c) ∗ scratch (F := F) c ∗ owing c 0 ∗ inputs m c ∗ holds c outRef fullShare (outAt m c))

theorem toks_single (c : Dev nD) (x : Cell) (h : dutiesOf x = {none}) : toksOf (F := F) c x = tok (route x none c) x none := by
  unfold toksOf; rw [h, bigSep_singleton]

/-- The tokens, cell by cell. -/
theorem toks_eq (c : Dev nD) : bigSep Finset.univ (toksOf (F := F) c)
    = iprop((((bigSep Finset.univ fun k : Fin 7 => tok (fwd k c) bar (some k)) ∗ tok (mirror c) bar none)
        ∗ tok c sxMir none ∗ tok (mirror c) rxMir none ∗ tok c spFs none ∗ tok (mirror c) rpFs none)
      ∗ (bigSep Finset.univ fun k : Fin 7 => tok c (sxNear k) none) ∗ (bigSep Finset.univ fun k : Fin 7 => tok (fwd k c) (rxNear k) none)
      ∗ (bigSep Finset.univ fun k : Fin 7 => tok c (sRelay k) none) ∗ (bigSep Finset.univ fun k : Fin 7 => tok (fwd k c) (rxFar k) none)
      ∗ (bigSep Finset.univ fun k : Fin 7 => tok c (spComb k) none) ∗ (bigSep Finset.univ fun k : Fin 7 => tok (fwd (rev k) c) (rpComb k) none)) := by
  rw [bigSep_cell]
  have hb : toksOf (F := F) c bar = iprop((bigSep Finset.univ fun k : Fin 7 => tok (fwd k c) bar (some k)) ∗ tok (mirror c) bar none) := by
    show bigSep (Finset.univ : Finset Duty) _ = _
    rw [bigSep_duty]
    rfl
  rw [hb, toks_single c sxMir rfl, toks_single c rxMir rfl, toks_single c spFs rfl, toks_single c rpFs rfl]
  simp only [toks_single c (sxNear _) rfl, toks_single c (rxNear _) rfl, toks_single c (sRelay _) rfl, toks_single c (rxFar _) rfl,
    toks_single c (spComb _) rfl, toks_single c (rpComb _) rfl]
  rfl

theorem creds_eq (c : Dev nD) : bigSep Finset.univ (credOf (F := F) c)
    ⊢ iprop((crd c bar ∗ crd c rxMir ∗ crd c rpFs)
      ∗ (bigSep Finset.univ fun k : Fin 7 => crd c (rxNear k)) ∗ (bigSep Finset.univ fun k : Fin 7 => crd c (rxFar k))
      ∗ (bigSep Finset.univ fun k : Fin 7 => crd c (rpComb k))) := by
  rw [bigSep_cell]
  simp only [credOf, own]
  iintro ⟨⟨H1, -, H2, -, H3⟩, -, H4, -, H5, -, H6⟩
  isplitl [H1 H2 H3]
  · isplitl [H1]; · iexact H1
    isplitl [H2]; · iexact H2
    iexact H3
  isplitl [H4]; · iexact H4
  isplitl [H5]; · iexact H5
  iexact H6

/-- What the peers have given, family by family, each at the index it is used. -/
theorem ready_eq (c : Dev nD) : (bigSep Finset.univ fun k : Fin 7 => ready (F := F) c k)
    = iprop((bigSep Finset.univ fun k : Fin 7 => free (F := F) (fwd k c) (slot3 near k))
      ∗ (bigSep Finset.univ fun k : Fin 7 => free (F := F) (fwd k c) (slot3 far k))
      ∗ (bigSep Finset.univ fun k : Fin 7 => free (F := F) (fwd (rev k) c) (slot4 combo k))) := by
  unfold ready
  rw [bigSep_sep', bigSep_sep', bigSep_rev fun k => free (F := F) (fwd k c) (slot3 near k), bigSep_rev fun k => free (F := F) (fwd k c) (slot3 far k)]

theorem slots_eq (c : Dev nD) : (bigSep Finset.univ fun k : Fin 7 => slots (F := F) c k)
    = iprop((bigSep Finset.univ fun k : Fin 7 => free (F := F) c (slot3 near k)) ∗ (bigSep Finset.univ fun k : Fin 7 => free (F := F) c (slot3 far k))
      ∗ (bigSep Finset.univ fun k : Fin 7 => free (F := F) c (slot4 combo k))) := by
  unfold slots
  rw [bigSep_sep', bigSep_sep', ← bigSep_rev fun k => free (F := F) c (slot3 near k), ← bigSep_rev fun k => free (F := F) c (slot3 far k)]

/-- A loop of seven steps in the middle of the body. -/
theorem WP_loop (c : Dev nD) (f : Fin 7 → Core F PUnit) {P : sProp 𝕄} [BI.Persistent P] {R S : Fin 7 → sProp 𝕄}
    {I : ℕ → sProp 𝕄} (h : ∀ k, iprop(P ∗ R k ∗ I k.val) ⊢ WP c (f k) fun _ => iprop(S k ∗ I (k.val + 1))) (Q : PUnit → sProp 𝕄) :
    iprop(P ∗ bigSep Finset.univ R ∗ I 0)
      ⊢ iprop((iprop(bigSep Finset.univ S ∗ I 7) -∗ Q ⟨⟩) -∗ WP c (seven f) Q) := by
  iintro H Hk
  iapply (WP_wand c (seven f) _ _) $$ [H]
  · iapply (WP_seven c f h); iexact H
  iintro %_ H
  iapply Hk; iexact H

theorem WP_deviceId (c : Dev nD) (Q : Dev nD → sProp 𝕄) : Q c ⊢ WP c (Prog.lift .deviceId : Core F (Dev nD)) Q := by
  simp only [Prog.lift, wp_deviceId, wp_ret]
  iintro H; imodintro; iexact H

/-- The own batch narrowed, named as what is sent. -/
theorem step_batch (c : Dev nD) (Q : PUnit → sProp 𝕄) :
    iprop(holds c xRef fullShare (xIn m c) ∗ free (F := F) c xb)
      ⊢ iprop((iprop(holds c xRef fullShare (xIn m c) ∗ holds c xb fullShare (X m c)) -∗ Q ⟨⟩) -∗ WP c prepX Q) :=
  step_prepX c (xIn m c) Q

/-- The four weights narrowed. -/
theorem weights_of (c : Dev nD) :
    iprop(holds c wqb fullShare (wOf (wqIn m c)) ∗ holds c wkb fullShare (wOf (wkIn m c)) ∗ holds c wvb fullShare (wOf (wvIn m c))
      ∗ holds c wob fullShare (wOf (woIn m c))) ⊢ weights m c := BIBase.Entails.rfl

set_option maxHeartbeats 4000000 in
theorem sound_body (c : Dev nD) : iprop(records m K ∗ before m c) ⊢ WP c body fun _ => after m c := by
  unfold before body
  simp only [WP_bind]
  rw [toks_eq, bigSep_cell]
  iintro ⟨#HR, ⟨⟨PBar, PsxM, PrxM, PspF, PrpF⟩, PsxN, PrxN, PsR, PrxF, PspC, PrpC⟩,
    ⟨⟨⟨TBar, TBarM⟩, TsxM, TrxM, TspF, TrpF⟩, TsxN, TrxN, TsR, TrxF, TspC, TrpC⟩, Hcr, Hscr, HO, Hin, Hout⟩
  ihave Hcr := (creds_eq c) $$ Hcr
  icases Hcr with ⟨⟨CBar, CrxM, CrpF⟩, CrxN, CrxF, CrpC⟩
  unfold scratch inputs
  icases Hscr with ⟨Bxb, Bwq, Bwk, Bwv, Bwo, Bnear, Bfar, Bmir, Bstage, Bown, Bcombo, Bfsum, Bpacc⟩
  icases Hin with ⟨Ix, Iwq, Iwo, Iwk, Iwv⟩
  ihave Bnear := (split3 c near) $$ Bnear
  ihave Bfar := (split3 c far) $$ Bfar
  ihave Bcombo := (split4 c combo) $$ Bcombo
  ihave Bstage := (split4 c stage) $$ Bstage
  iapply (WP_deviceId c _)
  -- the handshake
  ihave Bs := (Entails.of_eq (slots_eq (F := F) c).symm) $$ [Bnear Bfar Bcombo]
  · isplitl [Bnear]; · iexact Bnear
    isplitl [Bfar] <;> iassumption
  iapply (WP_loop c (signal c) (P := records m K) (I := fun n => owing c (oBar c n)) (step_signal m K c) _) $$ [TBar Bs HO]
  · isplitr; · iexact HR
    isplitr [HO]
    · simp only [bigSep_sep']
      isplitl [TBar]; · iexact TBar
      iexact Bs
    iexact HO
  iintro ⟨-, HO⟩
  ihave HO := (owing_done c (oBarM c) (dBar c)) $$ HO
  iapply (step_signalMirror m K c _) $$ [TBarM Bmir Bpacc HO]
  · isplitr; · iexact HR
    isplitl [TBarM]; · iexact TBarM
    isplitl [Bmir Bpacc]
    · isplitl [Bmir] <;> iassumption
    iexact HO
  iintro HO
  iapply (step_barrier m K c _) $$ [CBar HO PBar]
  · isplitr; · iexact HR
    isplitl [CBar]; · iexact CBar
    isplitl [HO]; · iexact HO
    iexact PBar
  iintro ⟨HO, ZBar, Hready, Nmir, Npacc⟩
  ihave Hready := (Entails.of_eq (ready_eq c)) $$ Hready
  icases Hready with ⟨Nnear, Nfar, Ncombo⟩
  -- the batch and the sends
  iapply (step_batch m c _) $$ [Ix Bxb]
  · isplitl [Ix]; · iexact Ix
    iexact Bxb
  iintro ⟨Ix, Bxb⟩
  ihave Bxb := (lend_seven c xb (X m c)) $$ Bxb
  icases Bxb with ⟨LxN, Bxb⟩
  ihave Bxb := (holds_lend c xb 7 (X m c)) $$ Bxb
  icases Bxb with ⟨LxM, Bxb⟩
  iapply (step_sendMir m K c _) $$ [LxM Nmir HO TsxM TrxM]
  · isplitr; · iexact HR
    isplitl [LxM]; · iexact LxM
    isplitl [Nmir]; · iexact Nmir
    isplitl [HO]; · iexact HO
    isplitl [TsxM]; · iexact TsxM
    iexact TrxM
  iintro ⟨CsxM, HO⟩
  iapply (WP_loop c (sendNear c) (P := records m K) (I := fun n => owing c (oNear c n)) (step_sendNear m K c) _) $$ [LxN Nnear TsxN TrxN HO]
  · isplitr; · iexact HR
    isplitr [HO]
    · simp only [bigSep_sep']
      isplitl [LxN]; · iexact LxN
      isplitl [Nnear]; · iexact Nnear
      isplitl [TsxN]; · iexact TsxN
      iexact TrxN
    iexact HO
  iintro ⟨CsxN, HO⟩
  ihave HO := (owing_done c (oFar c 0) (dNear c)) $$ HO
  iapply (step_prepW c wqRef wqb (Memref.isWhole_whole _) (wqIn m c) _) $$ [Iwq Bwq]
  · isplitl [Iwq]; · iexact Iwq
    iexact Bwq
  iintro ⟨Iwq, Bwq⟩
  iapply (step_prepW c wkRef wkb (Memref.isWhole_whole _) (wkIn m c) _) $$ [Iwk Bwk]
  · isplitl [Iwk]; · iexact Iwk
    iexact Bwk
  iintro ⟨Iwk, Bwk⟩
  iapply (step_prepW c wvRef wvb (Memref.isWhole_whole _) (wvIn m c) _) $$ [Iwv Bwv]
  · isplitl [Iwv]; · iexact Iwv
    iexact Bwv
  iintro ⟨Iwv, Bwv⟩
  iapply (step_prepW c woRef wob (Memref.isWhole_whole _) (woIn m c) _) $$ [Iwo Bwo]
  · isplitl [Iwo]; · iexact Iwo
    iexact Bwo
  iintro ⟨Iwo, Bwo⟩
  ihave Hw := (weights_of m c) $$ [Bwq Bwk Bwv Bwo]
  · isplitl [Bwq]; · iexact Bwq
    isplitl [Bwk]; · iexact Bwk
    isplitl [Bwv]; · iexact Bwv
    iexact Bwo
  -- the device's own batch, and the mirror's
  iapply (step_own m c (rest 8) _) $$ [Bxb Hw Hout]
  · isplitl [Bxb]; · iexact Bxb
    isplitl [Hw]; · iexact Hw
    iexact Hout
  iintro ⟨Bxb, Hw, Hout⟩
  iapply (step_waitMir m K c _) $$ [CrxM HO PrxM]
  · isplitr; · iexact HR
    isplitl [CrxM]; · iexact CrxM
    isplitl [HO]; · iexact HO
    iexact PrxM
  iintro ⟨HO, ZrxM, Bmir⟩
  ihave Bmir := (lend_seven c mir (X m (mirror c))) $$ Bmir
  icases Bmir with ⟨LmF, Bmir⟩
  iapply (WP_loop c (relay c) (P := records m K) (I := fun n => owing c (oFar c n)) (step_relay m K c) _) $$ [LmF Nfar TsR TrxF HO]
  · isplitr; · iexact HR
    isplitr [HO]
    · simp only [bigSep_sep']
      isplitl [LmF]; · iexact LmF
      isplitl [Nfar]; · iexact Nfar
      isplitl [TsR]; · iexact TsR
      iexact TrxF
    iexact HO
  iintro ⟨CsR, HO⟩
  ihave HO := (owing_done c (oComb c 0) (dFar c)) $$ HO
  iapply (step_mirror m c (rest 7) _) $$ [Bmir Hw Bown]
  · isplitl [Bmir]; · iexact Bmir
    isplitl [Hw]; · iexact Hw
    iexact Bown
  iintro ⟨Bmir, Hw, Bown⟩
  -- the peers' batches; the pairs back to them
  iapply (WP_loop c (pairStep c) (P := records m K) (I := fun n => iprop(weights m c ∗ owing c (oComb c n))) (step_pair m K c) _)
    $$ [CrxN PrxN CrxF PrxF Bstage Ncombo TspC TrpC Hw HO]
  · isplitr; · iexact HR
    isplitr [Hw HO]
    · simp only [bigSep_sep']
      isplitl [CrxN]; · iexact CrxN
      isplitl [PrxN]; · iexact PrxN
      isplitl [CrxF]; · iexact CrxF
      isplitl [PrxF]; · iexact PrxF
      isplitl [Bstage]; · iexact Bstage
      isplitl [Ncombo]; · iexact Ncombo
      isplitl [TspC]; · iexact TspC
      iexact TrpC
    isplitl [Hw]; · iexact Hw
    iexact HO
  simp only [bigSep_sep']
  iintro ⟨⟨ZrxN, ZrxF, Bnear, Bfar, CspC⟩, Hw, HO⟩
  ihave HO := (owing_done c (oSum c) (dComb c)) $$ HO
  -- the sums
  iapply (step_sumAll m K c _) $$ [CrpC PrpC HO Bown Bfsum]
  · isplitr; · iexact HR
    isplitl [CrpC PrpC]
    · simp only [bigSep_sep']
      isplitl [CrpC]; · iexact CrpC
      iexact PrpC
    isplitl [HO]; · iexact HO
    isplitl [Bown]; · iexact Bown
    iexact Bfsum
  simp only [bigSep_sep']
  iintro ⟨⟨ZrpC, Hret⟩, HO, Bown, Bfsum⟩
  iapply (step_sendSum m K c _) $$ [Bfsum Npacc HO TspF TrpF]
  · isplitr; · iexact HR
    isplitl [Bfsum]; · iexact Bfsum
    isplitl [Npacc]; · iexact Npacc
    isplitl [HO]; · iexact HO
    isplitl [TspF]; · iexact TspF
    iexact TrpF
  iintro ⟨CspF, HO⟩
  iapply (WP_loop c accStep (P := records m K) (I := fun n => holds c outRef fullShare (outTo m c n)) (step_acc m K c) _) $$ [Hret Hout]
  · isplitr; · iexact HR
    isplitr [Hout]
    · iexact Hret
    iexact Hout
  iintro ⟨Bcombo, Hout⟩
  iapply (step_waitSum m K c _) $$ [CrpF HO PrpF]
  · isplitr; · iexact HR
    isplitl [CrpF]; · iexact CrpF
    isplitl [HO]; · iexact HO
    iexact PrpF
  iintro ⟨HO, ZrpF, Bpacc⟩
  iapply (step_accSum m c _) $$ [Hout Bpacc]
  · isplitl [Hout]; · iexact Hout
    iexact Bpacc
  iintro ⟨Hout, Bpacc⟩
  -- the sends drained
  iapply (step_drainMir m K c _) $$ [CsxM HO PsxM]
  · isplitr; · iexact HR
    isplitl [CsxM]; · iexact CsxM
    isplitl [HO]; · iexact HO
    iexact PsxM
  iintro ⟨HO, ZsxM, LxM⟩
  iapply (WP_loop c (drain3 cc0_scratch13 near (Memref.isWhole_whole _) xb (Memref.isWhole_whole _)) (P := records m K) (I := fun _ => owing c 0) (step_drainNear m K c) _) $$ [CsxN PsxN HO]
  · isplitr; · iexact HR
    isplitr [HO]
    · simp only [bigSep_sep']
      isplitl [CsxN]; · iexact CsxN
      iexact PsxN
    iexact HO
  simp only [bigSep_sep']
  iintro ⟨⟨ZsxN, LxN⟩, HO⟩
  iapply (WP_loop c (drain3 cc0_scratch17 far (Memref.isWhole_whole _) mir (Memref.isWhole_whole _)) (P := records m K) (I := fun _ => owing c 0) (step_drainFar m K c) _) $$ [CsR PsR HO]
  · isplitr; · iexact HR
    isplitr [HO]
    · simp only [bigSep_sep']
      isplitl [CsR]; · iexact CsR
      iexact PsR
    iexact HO
  simp only [bigSep_sep']
  iintro ⟨⟨ZsR, LmF⟩, HO⟩
  iapply (WP_loop c drain4 (P := records m K) (I := fun _ => owing c 0) (step_drain4 m K c) _) $$ [CspC PspC HO]
  · isplitr; · iexact HR
    isplitr [HO]
    · simp only [bigSep_sep']
      isplitl [CspC]; · iexact CspC
      iexact PspC
    iexact HO
  simp only [bigSep_sep']
  iintro ⟨⟨ZspC, Bstage⟩, HO⟩
  iapply (step_drainSum m K c _) $$ [CspF HO PspF]
  · isplitr; · iexact HR
    isplitl [CspF]; · iexact CspF
    isplitl [HO]; · iexact HO
    iexact PspF
  iintro ⟨HO, ZspF, Bfsum⟩
  -- everything back in place
  ihave Bxb := (holds_repay c xb 7 (X m c)) $$ [LxM Bxb]
  · isplitl [LxM] <;> iassumption
  ihave Bxb := (repay_seven c xb (X m c)) $$ [LxN Bxb]
  · isplitl [LxN] <;> iassumption
  ihave Bmir := (repay_seven c mir (X m (mirror c))) $$ [LmF Bmir]
  · isplitl [LmF] <;> iassumption
  unfold weights
  icases Hw with ⟨Bwq, Bwk, Bwv, Bwo⟩
  unfold after scratch inputs
  isplitl [ZBar ZsxM ZrxM ZspF ZrpF ZsxN ZrxN ZsR ZrxF ZspC ZrpC]
  · iapply (Entails.of_eq (bigSep_cell (zero (F := F) c)).symm)
    isplitl [ZBar ZsxM ZrxM ZspF ZrpF]
    · isplitl [ZBar]; · iexact ZBar
      isplitl [ZsxM]; · iexact ZsxM
      isplitl [ZrxM]; · iexact ZrxM
      isplitl [ZspF]; · iexact ZspF
      iexact ZrpF
    isplitl [ZsxN]; · iexact ZsxN
    isplitl [ZrxN]; · iexact ZrxN
    isplitl [ZsR]; · iexact ZsR
    isplitl [ZrxF]; · iexact ZrxF
    isplitl [ZspC]; · iexact ZspC
    iexact ZrpC
  isplitl [Bxb Bwq Bwk Bwv Bwo Bnear Bfar Bmir Bstage Bown Bcombo Bfsum Bpacc]
  · isplitl [Bxb]; · iapply (holds_free c xb _); iexact Bxb
    isplitl [Bwq]; · iapply (holds_free c wqb _); iexact Bwq
    isplitl [Bwk]; · iapply (holds_free c wkb _); iexact Bwk
    isplitl [Bwv]; · iapply (holds_free c wvb _); iexact Bwv
    isplitl [Bwo]; · iapply (holds_free c wob _); iexact Bwo
    isplitl [Bnear]; · iapply (join3 c near (m ((c : Thread nD τ).loc cc0_scratch5))); iexact Bnear
    isplitl [Bfar]; · iapply (join3 c far (m ((c : Thread nD τ).loc cc0_scratch6))); iexact Bfar
    isplitl [Bmir]; · iapply (holds_free c mir _); iexact Bmir
    isplitl [Bstage]; · iapply (join4 c stage (m ((c : Thread nD τ).loc cc0_scratch8))); iexact Bstage
    isplitl [Bown]; · iapply (holds_free c ownfar _); iexact Bown
    isplitl [Bcombo]; · iapply (join4 c combo (m ((c : Thread nD τ).loc cc0_scratch10))); iexact Bcombo
    isplitl [Bfsum]; · iexact Bfsum
    iexact Bpacc
  isplitl [HO]; · iexact HO
  isplitl [Ix Iwq Iwo Iwk Iwv]
  · isplitl [Ix]; · iexact Ix
    isplitl [Iwq]; · iexact Iwq
    isplitl [Iwo]; · iexact Iwo
    isplitl [Iwk]; · iexact Iwk
    iexact Iwv
  iexact Hout

end Cert.Heads

end
-- ==== Proof.BodyEq.lean ====
/-
# The printed body is the folded one
-/
module

public import proofs.«01_k».proof.Proof.Steps
public import proofs.«01_k».proof.Proof.Gen.KernelIdeal.Launch

@[expose] public section

namespace Cert.Heads

open Cert.KernelIdeal Cert.KernelIdeal.Gen

open Idealize.ShloMosaic
open Idealize.ShloMosaic.TcCoe
open Idealize.SL.Sem

variable {F : FTy → Type} [FloatOps F]

set_option maxRecDepth 100000 in
set_option maxHeartbeats 4000000 in
/-- The body the pipeline calls at its one point is `body`: the two unfold to the same line of operations. -/
theorem body_eq : bodyAt0 (F := F) t0_0 = body := rfl

end Cert.Heads

end
-- ==== Proof.Launch.lean ====
/-
# The launch

The sixteen devices' ghost state is minted cell by cell, each duty's token handed to the device that pays it, and every
device started with its credits. The run leaves the inputs as they were and each device's result at `outAt`.
-/
module

public import proofs.«01_k».proof.Proof.Body
public import proofs.«01_k».proof.Proof.BodyEq
public import proofs.«01_k».proof.Proof.Gen.KernelIdeal.Frame
public import Idealize.ShloMosaic.Lib.Pipeline.CollectiveSegs

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cell

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch -/

theorem owed_sum (c : Dev nD) : oBar c 0 = ∑ x : Cell, if own x then 0 else owedOn c x := by
  rw [← Equiv.sum_comp Cell.equiv.symm, Fintype.sum_sum_type, Fintype.sum_prod_type, Fin.sum_univ_five, Fin.sum_univ_six]
  have hb : owedOn c bar = dueAt (mirror c) bar + ∑ k, dBar c k := by
    show ∑ d : Option (Fin 7), _ = _
    rw [Fintype.sum_option]; rfl
  have hs : ∀ x, dutiesOf x = {none} → owedOn c x = dueAt (route x none c) x := fun x h => by
    unfold owedOn; rw [h, Finset.sum_singleton]
  show _ = (owedOn c bar + 0 + owedOn c rxMir + 0 + owedOn c rpFs)
    + ((∑ k : Fin 7, 0) + (∑ k, owedOn c (rxNear k)) + (∑ k : Fin 7, 0) + (∑ k, owedOn c (rxFar k)) + (∑ k : Fin 7, 0) + ∑ k, owedOn c (rpComb k))
  rw [hb, hs rxMir rfl, hs rpFs rfl, Finset.sum_congr rfl fun k _ => hs (rxNear k) rfl, Finset.sum_congr rfl fun k _ => hs (rxFar k) rfl,
    Finset.sum_congr rfl fun k _ => hs (rpComb k) rfl, Finset.sum_const_zero, ← due_zero (dBar c), ← due_zero (fun k => dueAt (route (rxNear k) none c) (rxNear k)),
    ← due_zero (fun k => dueAt (route (rxFar k) none c) (rxFar k)), ← due_zero (fun k => dueAt (route (rpComb k) none c) (rpComb k))]
  show oSum c + due (dComb c) 0 + due (dFar c) 0 + due (dNear c) 0 + dueAt (mirror c) rxMir + dueAt (mirror c) bar + due (dBar c) 0
    = dueAt (mirror c) bar + due (dBar c) 0 + 0 + dueAt (mirror c) rxMir + 0 + dueAt (mirror c) rpFs
      + (0 + due (dNear c) 0 + 0 + due (dFar c) 0 + 0 + due (dComb c) 0)
  show 0 + dueAt (mirror c) rpFs + due (dComb c) 0 + due (dFar c) 0 + due (dNear c) 0 + dueAt (mirror c) rxMir + dueAt (mirror c) bar + due (dBar c) 0 = _
  simp only [zero_add, add_zero]
  ac_rfl

theorem above_launch (c : Dev nD) : Above 0 (oBar c 0) :=
  above_add (above_add (above_oMir c (by decide)) (above_at _ bar _ (by decide))) (above_due _ _ fun k => above_at _ bar _ (by decide))

/-- What the devices owe a device's cell between them is that cell's round. -/
theorem owed_cell (c : Dev nD) (x : Cell) (h : own x = false) : ∑ d : Dev nD, oBar d 0 (cell c x) () = units x := by
  have hy (d : Dev nD) (y : Cell) (hne : y ≠ x) : owedOn d y (cell c x) () = 0 := by
    unfold owedOn
    rw [Finset.sum_apply, Finsupp.finset_sum_apply]
    exact Finset.sum_eq_zero fun δ _ => by rw [tallyAt_apply]; exact if_neg fun h => hne (cell_inj h.1).2.symm
  have hx (d : Dev nD) : oBar d 0 (cell c x) () = ∑ δ ∈ dutiesOf x, if d = payer x δ c then amt x else 0 := by
    rw [owed_sum, Finset.sum_apply, Finsupp.finset_sum_apply, Finset.sum_eq_single x]
    · rw [h]
      show owedOn d x (cell c x) () = _
      unfold owedOn
      rw [Finset.sum_apply, Finsupp.finset_sum_apply]
      refine Finset.sum_congr rfl fun δ _ => ?_
      rw [tallyAt_apply]
      refine if_congr ⟨fun h => ?_, fun h => ?_⟩ rfl rfl
      · rw [(cell_inj h.1).1, payer_route]
      · rw [h, route_payer]; exact ⟨rfl, rfl⟩
    · intro y _ hne
      cases hb : own y
      · exact hy d y hne
      · rfl
    · exact fun hn => absurd (Finset.mem_univ x) hn
  rw [Finset.sum_congr rfl fun d _ => hx d, Finset.sum_comm, Finset.sum_congr rfl fun δ _ => Finset.sum_ite_eq' Finset.univ (payer x δ c) fun _ => amt x]
  simp only [Finset.mem_univ, if_true]
  rw [Finset.sum_const, smul_eq_mul, units]

/-! ## The ghost state -/

theorem bigSep_duties (x : Cell) (Φ : Duty → sProp 𝕄) :
    bigSep (dutiesOf x) Φ = bigSep Finset.univ fun d => if d ∈ dutiesOf x then Φ d else iprop(emp) := by
  refine Eq.trans ?_ (bigSep_filter Finset.univ (fun d => d ∈ dutiesOf x) Φ)
  rw [Finset.filter_mem_eq_inter, Finset.univ_inter]

/-- Dealing from the cells' owners to their payers. -/
theorem bigSep_route (Ψ : Dev nD → Cell → Duty → sProp 𝕄) :
    (bigSep Finset.univ fun c => bigSep Finset.univ fun x => bigSep (dutiesOf x) fun d => Ψ c x d)
      = bigSep Finset.univ fun c => bigSep Finset.univ fun x => bigSep (dutiesOf x) fun d => Ψ (route x d c) x d := by
  simp only [bigSep_duties]
  rw [bigSep_univ_comm, bigSep_univ_comm (fun (c : Dev nD) (x : Cell) => bigSep Finset.univ fun d => if d ∈ dutiesOf x then Ψ (route x d c) x d else iprop(emp))]
  refine bigSep_congr fun x _ => ?_
  rw [bigSep_univ_comm, bigSep_univ_comm (fun (c : Dev nD) (d : Duty) => if d ∈ dutiesOf x then Ψ (route x d c) x d else iprop(emp))]
  refine bigSep_congr fun d _ => ?_
  exact bigSep_univ_equiv (routeEquiv x d) fun c => if d ∈ dutiesOf x then Ψ c x d else iprop(emp)

abbrev cellAt (p : Dev nD × Cell) : GSem nD τ sig := cell p.1 p.2
theorem cellAt_injective : Function.Injective cellAt := fun p q h => Prod.ext (cell_inj h).1 (cell_inj h).2
def allCells : Finset (GSem nD τ sig) := Finset.univ.map ⟨cellAt, cellAt_injective⟩

abbrev tokAt (p : Dev nD × Cell × Duty) : GSem nD τ sig × ℕ × Duty := (cell p.1 p.2.1, 0, p.2.2)
theorem tokAt_injective : Function.Injective tokAt := fun p q h => by
  obtain ⟨c, x, d⟩ := p
  obtain ⟨c', x', d'⟩ := q
  have h1 := cell_inj (congrArg Prod.fst h)
  have h2 : d = d' := congrArg (fun t : GSem nD τ sig × ℕ × Duty => t.2.2) h
  exact Prod.ext h1.1 (Prod.ext h1.2 h2)
def allToks : Finset (GSem nD τ sig × ℕ × Duty) :=
  (Finset.univ.filter fun p : Dev nD × Cell × Duty => p.2.2 ∈ dutiesOf p.2.1).map ⟨tokAt, tokAt_injective⟩

def u₀ : UU := (initOf (Pipeline.cells cfgs cellOf_inj) (Pipeline.launchToks cfgs cellOf_inj), initOf allCells allToks)

/-- The tokens of a device's own cells, as minted. -/
def minted (c : Dev nD) : sProp 𝕄 := bigSep Finset.univ fun x => bigSep (dutiesOf x) fun d => tok (F := F) c x d

/-- What is minted for a device. -/
def G (c : Dev nD) : sProp 𝕄 :=
  iprop((bigSep Finset.univ fun x => roundState ER (Rd m) (cell c x) 0)
    ∗ ((bigSep Finset.univ (pos (F := F) c)) ∗ bigSep Finset.univ fun x => reached ER (cell c x) 0) ∗ minted (F := F) c)

/-- The cells' invariants and that each is in its round 0. -/
def invs (K : Dev nD × Cell → ℕ) : sProp 𝕄 :=
  iprop((bigSep Finset.univ fun p : Dev nD × Cell => cellInv ER (Rd m) (K p) (cellAt p))
    ∗ bigSep Finset.univ fun p : Dev nD × Cell => reached ER (cellAt p) 0)
instance invs_persistent (K : Dev nD × Cell → ℕ) : BI.Persistent (invs m K) := by unfold invs; infer_instance

/-- What a device starts from, but for its credits and the levels. -/
def G' (c : Dev nD) : sProp 𝕄 :=
  iprop(∃ K, invs m K ∗ bigSep Finset.univ (pos (F := F) c) ∗ bigSep Finset.univ (toksOf (F := F) c))

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cell => Φ (cell c x) := by
    unfold allCells; rw [bigSep_map, bigSep_univ_prod]; rfl
  have hT : bigSep allToks (fun t => (dutyTok ER t.1 t.2.1 t.2.2 : sProp 𝕄)) = bigSep Finset.univ fun c : Dev nD => minted c := by
    unfold allToks; rw [bigSep_map, bigSep_filter, bigSep_univ_prod]
    refine bigSep_congr fun c _ => ?_
    unfold minted
    rw [bigSep_univ_prod]
    exact bigSep_congr fun x _ => (bigSep_duties x _).symm
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The semaphores -/

/-- The kernel's own semaphores: every cell but the barrier. -/
def osem : Fin 4 ⊕ (Fin 6 × Fin 7) → SemLoc sig
  | .inl i => (Cell.equiv.symm (.inl i.succ)).sem
  | .inr p => (Cell.equiv.symm (.inr p)).sem

theorem ownSemFacts : Pipeline.OwnSemFacts cfg0.spec osem := by decide +kernel

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

abbrev ownZ (c : Dev nD) : sProp 𝕄 := Pipeline.ownSems0 (Ix := Unit) (Name := ℕ) (U := UU) (Lvl := ℕ) (Val := Elt F) (τ := τ) osem c

theorem ownSems0_eq (c : Dev nD) : (ownZ c : sProp 𝕄)
    = iprop((zero c sxMir ∗ zero c rxMir ∗ zero c spFs ∗ zero c rpFs)
      ∗ (bigSep Finset.univ fun k : Fin 7 => zero c (sxNear k)) ∗ (bigSep Finset.univ fun k : Fin 7 => zero c (rxNear k))
      ∗ (bigSep Finset.univ fun k : Fin 7 => zero c (sRelay k)) ∗ (bigSep Finset.univ fun k : Fin 7 => zero c (rxFar k))
      ∗ (bigSep Finset.univ fun k : Fin 7 => zero c (spComb k)) ∗ (bigSep Finset.univ fun k : Fin 7 => zero c (rpComb k))) := by
  unfold ownZ Pipeline.ownSems0
  rw [bigSep_univ_sum, bigSep_univ_prod, bigSep_four, bigSep_six]
  rfl

theorem unscopedSems0_eq (c : Dev nD) : (unscopedSems0 c : sProp 𝕄) = zero c bar := by
  unfold unscopedSems0; rw [bigSep_eq_bigSepL_of_eq [SemLoc.reg barrier] (by decide +kernel) (by decide)]; rfl

theorem sems_in (c : Dev nD) : iprop(ownZ (F := F) c ∗ unscopedSems0 c) ⊢ bigSep Finset.univ (zero (F := F) c) := by
  rw [ownSems0_eq, unscopedSems0_eq, bigSep_cell]
  iintro ⟨⟨H1, H2⟩, HB⟩
  isplitl [HB H1]
  · isplitl [HB]; · iexact HB
    iexact H1
  iexact H2
theorem sems_out (c : Dev nD) : bigSep Finset.univ (zero (F := F) c) ⊢ iprop(unscopedSems0 c ∗ ownZ (F := F) c) := by
  rw [ownSems0_eq, unscopedSems0_eq, bigSep_cell]
  iintro ⟨⟨HB, H1⟩, H2⟩
  isplitl [HB]; · iexact HB
  isplitl [H1]; · iexact H1
  iexact H2

/-! ## The cells allocated, for all devices at once -/

theorem alloc_cells (c : Dev nD) :
    iprop(bigSep Finset.univ (zero (F := F) c) ∗ bigSep Finset.univ fun x => roundState ER (Rd m) (cell c x) 0)
      ⊢ (|={Set.univ}=> bigSep Finset.univ fun x => iprop(∃ κ : ℕ, cellInv ER (Rd m) κ (cell c x)) : sProp 𝕄) := by
  rw [← bigSep_sep']
  exact (Idealize.SL.BI.bigSep_mono fun x _ => (Rounds.body_intro ER (Rd m) (cell c x)).trans inv_alloc).trans (bigSep_fupd _ _)

theorem core_alloc (c : Dev nD) :
    iprop(ownZ (F := F) c ∗ unscopedSems0 c ∗ G m c)
      ⊢ |={Set.univ}=> iprop((bigSep Finset.univ fun x => iprop(∃ κ : ℕ, cellInv ER (Rd m) κ (cell c x)))
          ∗ ((bigSep Finset.univ (pos (F := F) c)) ∗ bigSep Finset.univ fun x => reached ER (cell c x) 0) ∗ minted c) := by
  unfold G
  iintro ⟨Hos, Hus, Hst, Hat, Htok⟩
  ihave Hv := (sems_in (F := F) c) $$ [Hos Hus]
  · isplitl [Hos] <;> iassumption
  imod (alloc_cells m c) $$ [Hv Hst] with Hinv
  · isplitl [Hv] <;> iassumption
  imodintro
  isplitl [Hinv]; · iexact Hinv
  isplitl [Hat]; · iexact Hat
  iexact Htok

theorem ghost_intro (K : Dev nD × Cell → ℕ) (c : Dev nD) :
    iprop(invs m K ∗ (bigSep Finset.univ (pos (F := F) c) ∗ bigSep Finset.univ (toksOf (F := F) c))) ⊢ G' m c := by
  unfold G'
  iintro H
  iexists K
  iexact H

theorem bigSep_spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact Idealize.SL.BI.bigSep_mono h)

theorem deal : (bigSep Finset.univ fun c : Dev nD => (minted c : sProp 𝕄))
    = bigSep Finset.univ fun c : Dev nD => bigSep Finset.univ (toksOf (F := F) c) :=
  bigSep_route fun c x d => tok c x d

theorem regroup :
    (bigSep Finset.univ fun c : Dev nD => iprop((bigSep Finset.univ fun x => iprop(∃ κ : ℕ, cellInv ER (Rd m) κ (cell c x)))
          ∗ ((bigSep Finset.univ (pos (F := F) c)) ∗ bigSep Finset.univ fun x => reached ER (cell c x) 0) ∗ minted c) : sProp 𝕄)
      ⊢ bigSep Finset.univ (G' m) := by
  rw [bigSep_sep', bigSep_sep', bigSep_sep', deal,
    ← bigSep_univ_prod (fun p : Dev nD × Cell => iprop(∃ κ : ℕ, cellInv ER (Rd m) κ (cellAt p))),
    ← bigSep_univ_prod (fun p : Dev nD × Cell => (reached ER (cellAt p) 0 : sProp 𝕄))]
  iintro ⟨HI, ⟨Hat, #HR⟩, Htok⟩
  ihave HK := (BI.bigSep_exists_pi Finset.univ (fun (p : Dev nD × Cell) (κ : ℕ) => (cellInv ER (Rd m) κ (cellAt p) : sProp 𝕄))) $$ HI
  icases HK with ⟨%K, #HI⟩
  iapply (bigSep_spread (R := invs m K) fun c _ => ghost_intro m K c)
  isplitr
  · unfold invs; isplitl; · iexact HI
    iexact HR
  · simp only [bigSep_sep']
    isplitl [Hat]; · iexact Hat
    iexact Htok

theorem glob : (bigSep Finset.univ fun c => iprop(ownZ (F := F) c ∗ unscopedSems0 c ∗ G m c) : sProp 𝕄)
    ⊢ |={Set.univ}=> bigSep Finset.univ (G' m) :=
  ((Idealize.SL.BI.bigSep_mono fun c _ => core_alloc m c).trans (bigSep_fupd _ _)).trans (BI.fupd_mono (regroup m))

/-! ## The credits -/

theorem launch_cell (c : Dev nD) (x : Cell) (h : own x = false) :
    tallyOn (cell c x) (launchCredit (Pipeline.owing fun d => oBar d 0) 0 (cell c x)) = (tallyAt (cell c x) () (units x) : CellTallies nD τ sig Unit) := by
  unfold tallyAt; refine congrArg _ (Finsupp.ext fun u => ?_); cases u
  rw [Pipeline.launchCredit_owing, Finsupp.single_eq_same, owed_cell c x h]

theorem credit_cell (c : Dev nD) (x : Cell) :
    cred (tallyOn (cell c x) (launchCredit (Pipeline.owing fun d => oBar d 0) 0 (cell c x))) ⊢ (credOf c x : sProp 𝕄) := by
  unfold credOf
  cases h : own x
  · rw [launch_cell c x h]
  · iintro -; iempintro

theorem creds (c : Dev nD) : (Pipeline.launchCred (fun d => oBar d 0) c : sProp 𝕄) ⊢ bigSep Finset.univ (credOf (F := F) c) := by
  unfold Pipeline.launchCred
  refine BIBase.Entails.trans (bigSep_subset (Finset.subset_univ (Finset.univ.map ⟨Cell.sem, sem_injective⟩))) ?_
  rw [bigSep_map]
  exact Idealize.SL.BI.bigSep_mono fun x _ => credit_cell c x

end Cert.Heads

end
-- ==== Proof.Run.lean ====
/-
# The run

The pipeline's proof data at its one point, and the launch theorem applied: the inputs stay, each device's result is
`outAt`, every semaphore ends at zero.
-/
module

public import proofs.«01_k».proof.Proof.Launch

@[expose] public section

noncomputable section

namespace Cert.Heads

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cell

variable {F : FTy → Type} [FloatOps F]

local notation "𝕄" => MT nD τ sig Unit (Elt F) ℕ UU ℕ

variable (m : (ℓ : Loc nD τ sig) → Buf (Elt F) ℓ) (ρ : Dev nD → PrngReg)

/-- What a device holds on entry, but for its scratch buffers. -/
def start (c : Dev nD) : sProp 𝕄 :=
  iprop(G' m c ∗ levAts L lv ∗ bigSep Finset.univ (credOf (F := F) c))

def entering (c : Dev nD) : sProp 𝕄 := iprop(start m c ∗ scratch (F := F) c)
def leaving (c : Dev nD) : sProp 𝕄 := iprop(bigSep Finset.univ (zero (F := F) c) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => woIn m c
    | ⟨3, _⟩ => wkIn m c
    | ⟨4, _⟩ => wvIn m c
    | ⟨5, _⟩ => outAt m c
  Φ t := match t with
    | ⟨0, _⟩ => entering m c
    | ⟨_ + 1, _⟩ => leaving c
  q _ := fullShare
  owed t := match t with
    | ⟨0, _⟩ => oBar c 0
    | ⟨_ + 1, _⟩ => 0

/-! ## The body at its one point -/

theorem before_x (c : Dev nD) (d) : (dats m ρ 0 c).before (0 : Fin 6) t0_0 d = xIn m c := by
  unfold Dat.before; rw [if_pos (fetch0_0 t0_0)]; rfl
theorem before_wq (c : Dev nD) (d) : (dats m ρ 0 c).before (1 : Fin 6) t0_0 d = wqIn m c := by
  unfold Dat.before; rw [if_pos (fetch0_1 t0_0)]; rfl
theorem before_wo (c : Dev nD) (d) : (dats m ρ 0 c).before (2 : Fin 6) t0_0 d = woIn m c := by
  unfold Dat.before; rw [if_pos (fetch0_2 t0_0)]; rfl
theorem before_wk (c : Dev nD) (d) : (dats m ρ 0 c).before (3 : Fin 6) t0_0 d = wkIn m c := by
  unfold Dat.before; rw [if_pos (fetch0_3 t0_0)]; rfl
theorem before_wv (c : Dev nD) (d) : (dats m ρ 0 c).before (4 : Fin 6) t0_0 d = wvIn m c := by
  unfold Dat.before; rw [if_pos (fetch0_4 t0_0)]; rfl

def bodyPre (c : Dev nD) : sProp 𝕄 :=
  iprop(entering m c ∗ (dats m ρ 0 c).owesAt () t0_0.castSucc
    ∗ (∃ d, holds c xRef fullShare ((dats m ρ 0 c).before (0 : Fin 6) t0_0 d))
    ∗ (∃ d, holds c wqRef fullShare ((dats m ρ 0 c).before (1 : Fin 6) t0_0 d))
    ∗ (∃ d, holds c woRef fullShare ((dats m ρ 0 c).before (2 : Fin 6) t0_0 d))
    ∗ (∃ d, holds c wkRef fullShare ((dats m ρ 0 c).before (3 : Fin 6) t0_0 d))
    ∗ (∃ d, holds c wvRef fullShare ((dats m ρ 0 c).before (4 : Fin 6) t0_0 d))
    ∗ (∃ d, holds c outRef fullShare ((dats m ρ 0 c).before (5 : Fin 6) t0_0 d)))

def bodyPost (c : Dev nD) : sProp 𝕄 :=
  iprop(leaving c ∗ (dats m ρ 0 c).owesAt () t0_0.succ
    ∗ holds c xRef fullShare (xIn m c) ∗ holds c wqRef fullShare (wqIn m c) ∗ holds c woRef fullShare (woIn m c)
    ∗ holds c wkRef fullShare (wkIn m c) ∗ holds c wvRef fullShare (wvIn m c) ∗ holds c outRef fullShare (outAt m c))

theorem owing_in (c : Dev nD) : (dats m ρ 0 c).owesAt () t0_0.castSucc ⊢ owing c (oBar c 0) := by
  unfold Dat.owesAt Pipeline.owesWithin owing
  rw [show (dats m ρ 0 c).owed t0_0.castSucc = oBar c 0 from rfl]
  iintro ⟨%W, -, HO⟩
  iexists W; iexact HO
theorem owing_out (c : Dev nD) : owing c 0 ⊢ (dats m ρ 0 c).owesAt () t0_0.succ := by
  unfold Dat.owesAt Pipeline.owesWithin owing
  rw [show (dats m ρ 0 c).owed t0_0.succ = 0 from rfl]
  iintro ⟨%W, HO⟩
  iexists W
  isplitr; · ipureintro; exact fun _ _ => Or.inl trivial
  iexact HO

theorem sound_point (c : Dev nD) : bodyPre m ρ c ⊢ WP c (bodyAt0 t0_0) fun _ => bodyPost m ρ c := by
  rw [body_eq]
  unfold bodyPre entering start G'
  iintro ⟨⟨⟨⟨%K, Hi, Hpos, Htok⟩, Hlev, Hcr⟩, Hscr⟩, Ho, ⟨%d0, H0⟩, ⟨%d1, H1⟩, ⟨%d2, H2⟩, ⟨%d3, H3⟩, ⟨%d4, H4⟩, ⟨%d5, H5⟩⟩
  rw [before_x, before_wq, before_wo, before_wk, before_wv]
  ihave HO := (owing_in m ρ c) $$ Ho
  ihave Hout := (holds_free c outRef _) $$ H5
  unfold invs
  icases Hi with ⟨HI, HR⟩
  iapply (WP_wand c body _ _) $$ [HI HR Hlev Hpos Htok Hcr Hscr HO H0 H1 H2 H3 H4 Hout]
  · iapply (sound_body m K c)
    unfold records before inputs
    isplitl [HI HR Hlev]
    · isplitl [HI]; · iexact HI
      isplitl [HR]; · iexact HR
      iexact Hlev
    isplitl [Hpos]; · iexact Hpos
    isplitl [Htok]; · iexact Htok
    isplitl [Hcr]; · iexact Hcr
    isplitl [Hscr]; · iexact Hscr
    isplitl [HO]; · iexact HO
    isplitl [H0 H1 H2 H3 H4]
    · isplitl [H0]; · iexact H0
      isplitl [H1]; · iexact H1
      isplitl [H2]; · iexact H2
      isplitl [H3]; · iexact H3
      iexact H4
    iexact Hout
  iintro %_ H
  unfold after inputs bodyPost leaving
  icases H with ⟨Hz, Hscr, HO, ⟨H0, H1, H2, H3, H4⟩, Hout⟩
  isplitl [Hz Hscr]
  · isplitl [Hz]; · iexact Hz
    iexact Hscr
  isplitl [HO]; · iapply (owing_out m ρ c); iexact HO
  isplitl [H0]; · iexact H0
  isplitl [H1]; · iexact H1
  isplitl [H2]; · iexact H2
  isplitl [H3]; · iexact H3
  isplitl [H4]; · iexact H4
  iexact Hout

set_option maxRecDepth 100000 in
theorem body_obligation (c : Dev nD) : BodyObligation (dats (F := F) m ρ 0 c) (defs₀ (F := F)) 𝒱₀ () Set.univ := fun t => by
  rw [show t = t0_0 from fin_N0 t, bigSep_W0, bigSep_W0]
  exact sound_point m ρ c

/-! ## The launch's side conditions -/

theorem share_eq (c : Dev nD) (w : Fin cfg0.W) : (dats m ρ 0 c).share w = fullShare := by unfold Dat.share; split <;> rfl

theorem scratch_eq (c : Dev nD) : (Pipeline.scopedRest cfg0.spec c : sProp 𝕄) = scratch (F := F) c := by
  refine (scopedRest0_eq c).trans ?_
  unfold scratch free
  simp only [Memref.view_whole, View.set_whole]

theorem start_intro (c : Dev nD) :
    iprop(Pipeline.unscopedRestP Pipeline.Prefetch.none cfg0.spec c (fun b => m ((c : Thread nD τ).loc b)) ∗ levAts L lv
        ∗ Pipeline.launchCred (fun d => oBar d 0) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = entering m c from rfl, scratch_eq]
  unfold entering
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = leaving c from rfl, scratch_eq]
  unfold leaving
  iintro ⟨Hz, Hr⟩
  ihave Hz := (sems_out (F := F) c) $$ Hz
  icases Hz with ⟨H1, H2⟩
  isplitl [H1]; · iexact H1
  isplitl [H2]; · iexact H2
  iexact Hr

theorem stage_low (c : Dev nD) (w : Fin 6) (s : Fin (spec0 w).nbuf) : lv ((c : Thread nD τ), .dma ((spec0 w).sem s)) () ≤ 0 := by
  have h : ∀ (w : Fin 6) (s : Fin (spec0 w).nbuf) (x : Cell), x.sem ≠ .dma ((spec0 w).sem s) := by decide +kernel
  have h' : ofSem (.dma ((spec0 w).sem s)) = none := dif_neg fun ⟨x, hx⟩ => h w s x hx
  unfold lv
  rw [h']

theorem waits (c : Dev nD) : (levAts L lv : sProp 𝕄) ⊢ Pipeline.cellsWaits cfgs (dats m ρ) () 0 c :=
  Pipeline.cellsWaits_intro cfgs (dats m ρ) () 0 c fun w s t =>
    mayWait_of_above c _ 0 (stage_low c w s) (by
      rcases t with ⟨_ | _, ht⟩
      · exact above_launch c
      · exact above_zero 0)

/-! ## The run -/

def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_windows : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => oBar d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Heads

end
-- ==== Proof.Frames.lean ====
/-
# The final memory and the frames

The run of `run_windows` read at the program's arrays: arguments unchanged, each device's result `outAt`, semaphores at
zero. The frames are that run with the values dropped.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.ValueKit

@[expose] public section

noncomputable section

namespace Cert.Heads

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

set_option maxRecDepth 100000 in
theorem final_out (c : Dev nD) : finalA m ρ c (5 : Fin 6) = outAt m c := by
  unfold finalA
  refine (dats m ρ 0 c).arrAt_eq_of_after_last (5 : Fin 6) t0_0 (by decide +kernel) _ fun j => ?_
  blk_simp
  rfl

theorem final_in (c : Dev nD) (w : Fin 6) (h : (cfg0.win w).isOut = false) :
    finalA m ρ c w = m ((cfg0.win w).arr.view.loc (c : Thread nD τ)) :=
  (dats m ρ 0 c).arrAt_in w h _

/-- The program's arguments on device `c` hold what they held at the start. -/
def ArgsKept (m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)

/-- Every execution ends, with each device's result at `outAt`, its arguments unchanged and its semaphores at zero. -/
theorem run_main : θ_run defs (onTc (τ := τ) (main (F := F))) ⟨m, fun _ => 0, ρ⟩ (fun r =>
    (∀ c : Dev nD, r.2.mem ((c.tc : Thread nD τ).loc main_v1) = outAt m c ∧ ArgsKept m r.2.mem c)
      ∧ r.2.sem = fun _ => 0) :=
  (θ_run defs _ _).mono (fun r h => ⟨fun c =>
    ⟨(h.1 c (5 : Fin 6)).trans (final_out m ρ c),
     (h.1 c (0 : Fin 6)).trans (final_in m ρ c 0 rfl),
     (h.1 c (1 : Fin 6)).trans (final_in m ρ c 1 rfl),
     (h.1 c (3 : Fin 6)).trans (final_in m ρ c 3 rfl),
     (h.1 c (4 : Fin 6)).trans (final_in m ρ c 4 rfl),
     (h.1 c (2 : Fin 6)).trans (final_in m ρ c 2 rfl)⟩, h.2⟩) (run_windows m ρ)

theorem frame_kernelIdeal : Cert.quiescent_KernelIdeal := fun m ρ _ =>
  (θ_run Cert.KernelIdeal.defs _ _).mono (fun r h => ⟨fun c => (h.1 c).2, h.2⟩) (run_main (F := Ideal) m ρ)

/-- The program as printed and the one printed for the ideal reading are the same text: their bodies agree, -/
theorem body_same (l : Fin 1) (x : Cert.Kernel.Λ₀.Args l) :
    Cert.Kernel.defs₀ (F := Bits) .tc l x = Cert.KernelIdeal.defs₀ (F := Bits) .tc l x := by
  match l, x with
  | 0, (t, s) => rfl

theorem bodies_same : Cert.Kernel.defs₀ (F := Bits) = Cert.KernelIdeal.defs₀ (F := Bits) := by
  funext p
  cases p with
  | tc => funext l x; exact body_same l x
  | _ => rfl

/-- and so do their tables of definitions. -/
theorem defs_same : Cert.Kernel.defs (F := Bits) = Cert.KernelIdeal.defs (F := Bits) :=
  congrArg (Pipeline.defs (Cert.KernelIdeal.pcfgs (F := Bits))) bodies_same

theorem frame_kernel : Cert.quiescent_Kernel := fun m ρ _ => by
  rw [defs_same]
  have h : θ_run Cert.KernelIdeal.defs (onTc (τ := τ) (main (F := Bits))) ⟨m, fun _ => 0, ρ⟩ (fun r =>
      (∀ c : Dev nD, ArgsKept m r.2.mem c) ∧ r.2.sem = fun _ => 0) :=
    (θ_run Cert.KernelIdeal.defs _ _).mono (fun r h => ⟨fun c => (h.1 c).2, h.2⟩) (run_main (F := Bits) m ρ)
  exact h

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Heads

end
-- ==== Proof.Share.lean ====
/-
# One device's share, at an index

Over the extended reals a share of the attention, read at a row and a column: eight softmax-weighted averages of the
device's heads, contracted with its rows of the output weights.
-/
module

public import proofs.«01_k».proof.Proof.Steps
public import Idealize.ShloMosaic.Lib.Pointwise

@[expose] public section

set_option maxRecDepth 16384

noncomputable section

namespace Cert.Heads

open Cert.KernelIdeal Cert.KernelIdeal.Gen

open Idealize.ShloMosaic

/-! ## The attention of one head, from its scores -/

/-- The greatest score of a row. -/
def peak {n m : ℕ} (s : Fin n → Fin m → EReal) (i : Fin n) : EReal := Finset.univ.fold max ⊥ (s i)
/-- The weight of position `j` in row `i`. -/
def weight {n m : ℕ} (s : Fin n → Fin m → EReal) (i : Fin n) (j : Fin m) : EReal := Ideal.exp (s i j - peak s i)
/-- The average of the values `v` by the weights of row `i`. -/
def average {n m p : ℕ} (s : Fin n → Fin m → EReal) (v : Fin m → Fin p → EReal) (i : Fin n) (e : Fin p) : EReal :=
  Ideal.div (∑ j, weight s i j * v j e) (∑ j, weight s i j)

/-! ## The kernel's arithmetic -/

theorem negInf : Ideal.ofBits .f32 0xFF800000#32 = ⊥ := by simp [Ideal.ofBits, Ideal.ieee]

theorem proj_apply (x : FVec Ideal S256x1024 .bf16) (w : FVec Ideal S1024x1024 .bf16) (r : Fin 256) (n : Fin 1024) :
    proj x w (ix2 r n) = ∑ k : Fin 1024, x (ix2 r k) * w (ix2 k n) := by
  pointwise [proj]

theorem head_apply (q k v : FVec Ideal S256x128 .bf16) (i : Fin 256) (e : Fin 128) :
    head q k v (ix2 i e)
      = average (fun i j => ∑ f : Fin 128, q (ix2 i f) * k (ix2 j f)) (fun j e => v (ix2 j e)) i e := by
  pointwise [head, average, weight, peak]
  rw [negInf]

/-- Column `e` of head `h`, of the eight heads of 128 columns that lie side by side. -/
def col (h : Fin 8) (e : Fin 128) : Fin 1024 := ⟨h.val * 128 + e.val, by omega⟩

/-- The columns of head `h`. -/
def cut (h : Fin 8) (x : FVec Ideal S256x1024 .bf16) : FVec Ideal S256x128 .bf16 := fun j => x (ix2 (j 0) (col h (j 1)))

theorem slice_eq (h : Fin 8) (x : FVec Ideal S256x1024 .bf16) (o : Nat) (ho : h.val * 128 = o)
    (hs : S256x1024.Slices ![0, o] S256x128) : extractStridedSlice S256x128 ![0, o] x hs = cut h x := by
  subst ho
  funext j
  pointwise [cut, col]

theorem heads_apply (q k v : FVec Ideal S256x1024 .bf16) (i : Fin 256) (h : Fin 8) (e : Fin 128) :
    heads q k v (ix2 i (col h e)) = head (cut h q) (cut h k) (cut h v) (ix2 i e) := by
  unfold heads
  simp only [slice_eq 0 _ 0 rfl, slice_eq 1 _ 128 rfl, slice_eq 2 _ 256 rfl, slice_eq 3 _ 384 rfl,
    slice_eq 4 _ 512 rfl, slice_eq 5 _ 640 rfl, slice_eq 6 _ 768 rfl, slice_eq 7 _ 896 rfl]
  generalize (head : FVec Ideal S256x128 .bf16 → _) = f
  have hf (h' : Fin 8) (e' : Fin 128) (hh : h'.val = h.val) (he : e'.val = e.val) :
      f (cut h' q) (cut h' k) (cut h' v) (ix2 i e') = f (cut h q) (cut h k) (cut h v) (ix2 i e) := by
    rw [Fin.ext hh, Fin.ext he]
  have hc : (col h e).val = h.val * 128 + e.val := rfl
  pointwise []
  fin_vals h with hk
  all_goals
    simp only [hc, hk]
    simp (disch := omega) only [dif_neg, dif_pos]
    exact hf _ _ hk.symm (by simp only; omega)

/-- The scale of the scores, `128 ^ (-1/2)` as the kernel rounds it. -/
def scale : EReal := Ideal.ofBits .f32 0x3DB504F3#32

theorem scale_coe : ∃ r : ℝ, 0 ≤ r ∧ scale = (r : EReal) := by
  unfold scale
  simp [Ideal.ofBits, Ideal.ieee, -EReal.coe_mul]

/-- The scaled scores of one head, from the products with the two weights. -/
def scores {n : ℕ} (x : Fin n → Fin 1024 → EReal) (wq wk : Fin 1024 → Fin 128 → EReal) (i j : Fin n) : EReal :=
  (∑ f : Fin 128, (∑ k : Fin 1024, x i k * wq k f) * (∑ k : Fin 1024, x j k * wk k f)) * scale

/-- One head's average of the value rows. -/
def headOut {n : ℕ} (x : Fin n → Fin 1024 → EReal) (wq wk wv : Fin 1024 → Fin 128 → EReal) (i : Fin n) (e : Fin 128) : EReal :=
  average (scores x wq wk) (fun j e => ∑ k : Fin 1024, x j k * wv k e) i e

theorem sum_mul_scale {ι : Type} (s : Finset ι) (a : ι → EReal) : (∑ f ∈ s, a f) * scale = ∑ f ∈ s, a f * scale := by
  classical
  obtain ⟨r, hr, h⟩ := scale_coe
  induction s using Finset.induction_on with
  | empty => simp
  | insert x s hx ih =>
    rw [Finset.sum_insert hx, Finset.sum_insert hx, ← ih, h]
    exact EReal.right_distrib_of_nonneg_of_ne_top (EReal.coe_nonneg.2 hr) (EReal.coe_ne_top r) _ _

theorem score_eq {n : ℕ} (a b : Fin n → EReal) : ∑ f, (a f * scale) * b f = (∑ f, a f * b f) * scale := by
  rw [sum_mul_scale]
  exact Finset.sum_congr rfl fun f _ => mul_right_comm _ _ _

theorem attn_apply (x : FVec Ideal S256x1024 .bf16) (wq wk wv wo : FVec Ideal S1024x1024 .bf16) (i : Fin 256) (n : Fin 1024) :
    attn x wq wk wv wo (ix2 i n)
      = ∑ h : Fin 8, ∑ e : Fin 128,
          headOut (fun i k => x (ix2 i k)) (fun k f => wq (ix2 k (col h f))) (fun k f => wk (ix2 k (col h f)))
            (fun k f => wv (ix2 k (col h f))) i e * wo (ix2 (col h e) n) := by
  unfold attn
  rw [proj_apply, Fin.sum_univ_tiles 8 128 rfl]
  refine Finset.sum_congr rfl fun h _ => Finset.sum_congr rfl fun e _ => ?_
  refine congrArg (· * wo (ix2 (col h e) n)) ?_
  refine (heads_apply _ _ _ i h e).trans ((head_apply _ _ _ i e).trans ?_)
  unfold headOut
  congr 1
  · funext i j
    unfold scores
    rw [← score_eq]
    refine Finset.sum_congr rfl fun f _ => ?_
    pointwise [cut]
    rw [proj_apply, proj_apply]
    rfl
  · funext j e
    pointwise [cut]
    exact proj_apply _ _ _ _

end Cert.Heads

end
-- ==== Proof.Output.lean ====
/-
# A device's result, at an index

Over the extended reals a device's result is the sum, over all sixteen devices, of their shares of its batch: the group's
own eight arrive one by one, the other group's eight as one sum formed by the mirror.
-/
module

public import proofs.«01_k».proof.Proof.Protocol
public import proofs.«01_k».proof.Proof.Share
public import Idealize.ShloMosaic.Lib.Pipeline.ValueKit

@[expose] public section

set_option maxRecDepth 16384

noncomputable section

namespace Cert.Heads

open Cert.KernelIdeal Cert.KernelIdeal.Gen

open Idealize.ShloMosaic
open Idealize.ShloMosaic.TcCoe

/-! ## The device's arrays -/

theorem xOf_apply (x : FVec Ideal S1x256x1024 .f32) (i : Fin 256) (k : Fin 1024) : xOf x (ix2 i k) = x (ix3 0 i k) := by
  pointwise [xOf]

theorem wOf_apply (w : FVec Ideal S1024x1024 .f32) (k n : Fin 1024) : wOf w (ix2 k n) = w (ix2 k n) := by
  pointwise [wOf]

section Reads

variable {F : FTy → Type} [FloatOps F] (m : (ℓ : Loc nD τ sig) → Buf (Elt F) ℓ) (c : Dev nD)

theorem xIn_eq : xIn m c = m ((c : Thread nD τ).loc main_arg0) := by
  funext j; unfold xIn; have e (a) : win0_0.index (0 : Fin 1) a = 0 := rfl
  blk_simp; blk_ext [e]
theorem wqIn_eq : wqIn m c = m ((c : Thread nD τ).loc main_arg1) := by
  funext j; unfold wqIn; have e (a) : win0_1.index (0 : Fin 1) a = 0 := rfl
  blk_simp; blk_ext [e]
theorem wkIn_eq : wkIn m c = m ((c : Thread nD τ).loc main_arg2) := by
  funext j; unfold wkIn; have e (a) : win0_3.index (0 : Fin 1) a = 0 := rfl
  blk_simp; blk_ext [e]
theorem wvIn_eq : wvIn m c = m ((c : Thread nD τ).loc main_arg3) := by
  funext j; unfold wvIn; have e (a) : win0_4.index (0 : Fin 1) a = 0 := rfl
  blk_simp; blk_ext [e]
theorem woIn_eq : woIn m c = m ((c : Thread nD τ).loc main_arg4) := by
  funext j; unfold woIn; have e (a) : win0_2.index (0 : Fin 1) a = 0 := rfl
  blk_simp; blk_ext [e]

end Reads

/-! ## The sum over the devices -/

/-- The sixteen devices, from `c`: the two groups (`c`'s own first), in each the one of `c`'s place and the seven after it. -/
def around (c : Dev nD) (x : Bool × Option (Fin 7)) : Dev nD :=
  match x with
  | (false, none) => c
  | (false, some k) => fwd k c
  | (true, none) => mirror c
  | (true, some k) => fwd k (mirror c)

theorem around_injective (c : Dev nD) : Function.Injective (around c) := by revert c; decide +kernel

theorem around_bijective (c : Dev nD) : Function.Bijective (around c) :=
  (Fintype.bijective_iff_injective_and_card _).2 ⟨around_injective c, by simp [nD]⟩

theorem sum_around (g : Dev nD → EReal) (c : Dev nD) :
    (g c + ∑ k : Fin 7, g (fwd k c)) + (g (mirror c) + ∑ k : Fin 7, g (fwd k (mirror c))) = ∑ d : Dev nD, g d := by
  rw [← (around_bijective c).sum_comp, Fintype.sum_prod_type, Fintype.sum_bool, Fintype.sum_option, Fintype.sum_option, add_comm]
  rfl

variable (m : (ℓ : Loc nD τ sig) → Buf (Elt Ideal) ℓ) (c : Dev nD) (i : Fin 256) (n : Fin 1024)

theorem wide_half (d e : Dev nD) : wide (shareHalf m d e) (ix2 i n) = share m d e (ix2 i n) := by
  unfold shareHalf
  generalize share m d e = s
  pointwise [wide]

theorem kept_apply (d e : Dev nD) : shareKept m d e (ix2 i n) = share m d e (ix2 i n) := by
  unfold shareKept
  generalize share m d e = s
  pointwise []

theorem accum_apply (o : FVec Ideal S1x256x1024 .f32) (a : FVec Ideal S256x1024 .f32) (z : Fin 1) :
    accum o a (ix3 z i n) = (o (ix3 z i n) + a (ix2 i n) : EReal) := by
  obtain rfl : z = 0 := Subsingleton.elim _ _
  pointwise [accum]

theorem sumTo_apply (l : ℕ) (hl : l ≤ 7) :
    sumTo m c l (ix2 i n)
      = (share m c (mirror c) (ix2 i n) + ∑ k : Fin l, share m (fwd (k.castLE hl) c) (mirror c) (ix2 i n) : EReal) := by
  induction l with
  | zero =>
    rw [Fin.sum_univ_zero, add_zero]
    exact kept_apply m i n c (mirror c)
  | succ l ih =>
    rw [Fin.sum_univ_castSucc, ← add_assoc]
    refine (congrFun (sumTo_succ m c ⟨l, hl⟩) (ix2 i n)).trans ?_
    show (sumTo m c l (ix2 i n) + wide (shareHalf m (fwd ⟨l, hl⟩ c) (mirror c)) (ix2 i n) : EReal) = _
    rw [ih (by omega), wide_half]
    rfl

theorem outTo_apply (l : ℕ) (hl : l ≤ 7) (z : Fin 1) :
    outTo m c l (ix3 z i n)
      = (share m c c (ix2 i n) + ∑ k : Fin l, share m (fwd (k.castLE hl) c) c (ix2 i n) : EReal) := by
  induction l with
  | zero =>
    rw [Fin.sum_univ_zero, add_zero]
    show shapeCast S1x256x1024 (share m c c) shapeCasts_S256x1024_S1x256x1024 (ix3 z i n) = _
    generalize share m c c = s
    pointwise []
  | succ l ih =>
    rw [Fin.sum_univ_castSucc, ← add_assoc]
    refine (congrFun (outTo_succ m c ⟨l, hl⟩) (ix3 z i n)).trans ?_
    refine (accum_apply i n _ _ z).trans ?_
    rw [ih (by omega), wide_half]
    rfl

theorem sumOf_apply : sumOf m c (ix2 i n) = sumTo m c 7 (ix2 i n) := by
  unfold sumOf
  generalize sumTo m c 7 = s
  pointwise []

/-- A device's result is the sum of all devices' shares of its batch. -/
theorem outAt_apply (z : Fin 1) : outAt m c (ix3 z i n) = ∑ d : Dev nD, (share m d c (ix2 i n) : EReal) := by
  refine (accum_apply i n _ _ z).trans ?_
  show (outTo m c 7 (ix3 z i n) + sumOf m (mirror c) (ix2 i n) : EReal) = _
  rw [sumOf_apply, sumTo_apply m (mirror c) i n 7 le_rfl, outTo_apply m c i n 7 le_rfl z, mirror_mirror]
  exact sum_around (fun d => share m d c (ix2 i n)) c

/-- A device's share of a batch, of the arguments that the two devices hold. -/
theorem share_apply (d e : Dev nD) :
    share m d e (ix2 i n)
      = ∑ h : Fin 8, ∑ f : Fin 128,
          headOut (fun i k => m ((e : Thread nD τ).loc main_arg0) (ix3 0 i k))
            (fun k f => m ((d : Thread nD τ).loc main_arg1) (ix2 k (col h f)))
            (fun k f => m ((d : Thread nD τ).loc main_arg2) (ix2 k (col h f)))
            (fun k f => m ((d : Thread nD τ).loc main_arg3) (ix2 k (col h f))) i f
          * m ((d : Thread nD τ).loc main_arg4) (ix2 (col h f) n) := by
  unfold share X WQ WK WV WO
  rw [attn_apply]
  simp only [xOf_apply, wOf_apply, xIn_eq, wqIn_eq, wkIn_eq, wvIn_eq, woIn_eq]

end Cert.Heads

end
-- ==== Proof.Whole.lean ====
/-
# The reference, at an index

The reference's result over the extended reals, stage by stage: the three products with the weights cut into 128 heads,
the scaled scores, the greatest of each row, the weights, the weighted averages, and the product with the output weights.
The terms that the running softmax starts from are zero times an exponential, which is zero, and the greater of minus
infinity and a maximum, which is the maximum.
-/
module

public import proofs.«01_k».proof.Proof.Gen.ReferenceIdeal.Run
public import proofs.«01_k».proof.Proof.Share

@[expose] public section

set_option maxRecDepth 16384

noncomputable section

namespace Cert.Whole

open Cert.ReferenceIdeal Cert.ReferenceIdeal.Gen
open Cert.Heads (peak weight average scale scores headOut negInf)

open Idealize.ShloMosaic

/-- A product with one of the three input weights, its columns cut into 128 heads of 128. -/
def split (x : FVec Ideal S16x256x1024 .f32) (w : FVec Ideal S1024x16384 .f32) : FVec Ideal S16x256x128x128 .f32 :=
  shapeCast _ (Host.dotGeneral dot_S16x256x1024_S1024x16384_S16x256x16384_2_0_01_1_n_n none x w) shapeCasts_S16x256x16384_S16x256x128x128

/-- The scaled scores of every head. -/
def score (q k : FVec Ideal S16x256x128x128 .f32) : FVec Ideal S16x128x256x256 .f32 :=
  mulf (Host.dotGeneral dot_S16x256x128x128_S16x256x128x128_S16x128x256x256_3_3_1_1_02_02 none q k)
    (broadcastInDim S16x128x256x256 ![] bcast_S_S16x128x256x256 (constant S_ .f32 0x3DB504F3#32))

/-- The column of minus infinities that the running maximum starts from. -/
def lowest : FVec Ideal S16x128x256x1 .f32 :=
  broadcastInDim S16x128x256x1 ![] bcast_S_S16x128x256x1 (constant S_ .f32 0xFF800000#32)

/-- The greatest score of each row. -/
def rowTop (s : FVec Ideal S16x128x256x256 .f32) : FVec Ideal S16x128x256 .f32 :=
  Host.reduce FloatOps.maximumf s (constant S_ .f32 0xFF800000#32) reducesTo_S16x128x256x256_S16x128x256_d3 h_S_

/-- The greater of a column and a row's value. -/
def capped (l : FVec Ideal S16x128x256x1 .f32) (r : FVec Ideal S16x128x256 .f32) : FVec Ideal S16x128x256x1 .f32 :=
  maximumf l (broadcastInDim S16x128x256x1 ![0, 1, 2] bcast_S16x128x256_S16x128x256x1_0_1_2 r)

/-- The same as a column, against the running maximum's start. -/
def top (s : FVec Ideal S16x128x256x256 .f32) : FVec Ideal S16x128x256x1 .f32 :=
  capped lowest (rowTop s)

/-- The exponentials of the scores less their row's greatest. -/
def soft (s : FVec Ideal S16x128x256x256 .f32) : FVec Ideal S16x128x256x256 .f32 :=
  Host.exp (subf s (broadcastInDim S16x128x256x256 ![0, 1, 2, 3] bcast_S16x128x256x1_S16x128x256x256_0_1_2_3 (top s)))

/-- The factor by which what was there before the first step is scaled. -/
def fade (s : FVec Ideal S16x128x256x256 .f32) : FVec Ideal S16x128x256x1 .f32 := Host.exp (subf lowest (top s))

/-- The sums of the weights of each row. -/
def mass (s : FVec Ideal S16x128x256x256 .f32) : FVec Ideal S16x128x256x1 .f32 :=
  addf (mulf (broadcastInDim S16x128x256x1 ![] bcast_S_S16x128x256x1 (constant S_ .f32 0x00000000#32)) (fade s))
    (broadcastInDim S16x128x256x1 ![0, 1, 2] bcast_S16x128x256_S16x128x256x1_0_1_2
      (Host.reduceAdd (soft s) (constant S_ .f32 0x00000000#32) reducesTo_S16x128x256x256_S16x128x256_d3 h_S_))

/-- The weighted sums of the value rows. -/
def blend (s : FVec Ideal S16x128x256x256 .f32) (v : FVec Ideal S16x256x128x128 .f32) : FVec Ideal S16x256x128x128 .f32 :=
  addf (mulf (broadcastInDim S16x256x128x128 ![] bcast_S_S16x256x128x128 (constant S_ .f32 0x00000000#32))
      (broadcastInDim S16x256x128x128 ![0, 1, 2, 3] bcast_S16x256x128x1_S16x256x128x128_0_1_2_3
        (transpose S16x256x128x1 [0, 2, 1, 3] (fade s) transposes_S16x128x256x1_S16x256x128x1_0_2_1_3)))
    (transpose S16x256x128x128 [0, 3, 1, 2]
      (Host.dotGeneral dot_S16x256x128x128_S16x128x256x256_S16x128x128x256_1_3_3_2_02_01 none v (soft s))
      transposes_S16x128x128x256_S16x256x128x128_0_3_1_2)

/-- The averages of every head. -/
def mean (s : FVec Ideal S16x128x256x256 .f32) (v : FVec Ideal S16x256x128x128 .f32) : FVec Ideal S16x256x128x128 .f32 :=
  Host.divf (blend s v) (broadcastInDim S16x256x128x128 ![0, 1, 2, 3] bcast_S16x256x128x1_S16x256x128x128_0_1_2_3
    (transpose S16x256x128x1 [0, 2, 1, 3] (mass s) transposes_S16x128x256x1_S16x256x128x1_0_2_1_3))

/-- The reference's result, of its five arguments. -/
def result (x : FVec Ideal S16x256x1024 .f32) (wq wk wv : FVec Ideal S1024x16384 .f32) (wo : FVec Ideal S16384x1024 .f32) :
    FVec Ideal S16x256x1024 .f32 :=
  Host.dotGeneral dot_S16x256x16384_S16384x1024_S16x256x1024_2_0_01_1_n_n none
    (shapeCast _ (mean (score (split x wq) (split x wk)) (split x wv)) shapeCasts_S16x256x128x128_S16x256x16384) wo

theorem res_eq (m : (ℓ : Loc nD τ sig) → Buf (Elt Ideal) ℓ) (c : Dev nD) :
    Value.res_main_v34 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

/-- Column `e` of head `g`, of the 128 heads of 128 columns that lie side by side. -/
def wcol (g : Fin 128) (e : Fin 128) : Fin 16384 := ⟨g.val * 128 + e.val, by omega⟩

theorem split_apply (x : FVec Ideal S16x256x1024 .f32) (w : FVec Ideal S1024x16384 .f32) (b : Fin 16) (i : Fin 256) (g e : Fin 128) :
    split x w (ix4 b i g e) = ∑ k : Fin 1024, x (ix3 b i k) * w (ix2 k (wcol g e)) := by
  pointwise [split, wcol]

theorem score_apply (q k : FVec Ideal S16x256x128x128 .f32) (b : Fin 16) (g : Fin 128) (i j : Fin 256) :
    score q k (ix4 b g i j) = (∑ f : Fin 128, q (ix4 b i g f) * k (ix4 b j g f)) * scale := by
  pointwise [score, scale]

theorem lowest_apply (b : Fin 16) (g : Fin 128) (i : Fin 256) (z : Fin 1) : lowest (ix4 b g i z) = ⊥ := by
  pointwise [lowest]
  exact negInf

/-- Two names of one operation fold to one value. -/
theorem fold_same {ι : Type} (op op' : EReal → EReal → EReal) [Std.Commutative op] [Std.Associative op]
    [Std.Commutative op'] [Std.Associative op'] (h : ∀ a b, op a b = op' a b) (z : EReal) (f : ι → EReal) (s : Finset ι) :
    s.fold op z f = s.fold op' z f := by
  obtain rfl : op = op' := funext fun a => funext fun b => h a b
  rfl

theorem rowTop_fold (s : FVec Ideal S16x128x256x256 .f32) (b : Fin 16) (g : Fin 128) (i : Fin 256) :
    rowTop s (ix3 b g i) = Finset.univ.fold max (Ideal.ofBits .f32 0xFF800000#32) fun j => s (ix4 b g i j) := by
  pointwise [rowTop]

theorem rowTop_apply (s : FVec Ideal S16x128x256x256 .f32) (b : Fin 16) (g : Fin 128) (i : Fin 256) :
    rowTop s (ix3 b g i) = peak (fun i j => s (ix4 b g i j)) i := by
  unfold peak
  rw [← negInf]
  exact (rowTop_fold s b g i).trans (fold_same _ _ (fun _ _ => rfl) _ _ _)

theorem capped_apply (l : FVec Ideal S16x128x256x1 .f32) (r : FVec Ideal S16x128x256 .f32) (b : Fin 16) (g : Fin 128) (i : Fin 256)
    (z : Fin 1) : capped l r (ix4 b g i z) = (max (l (ix4 b g i z) : EReal) (r (ix3 b g i)) : EReal) := by
  pointwise [capped]

theorem bot_max (y : EReal) : max ⊥ y = y := max_eq_right bot_le

theorem top_apply (s : FVec Ideal S16x128x256x256 .f32) (b : Fin 16) (g : Fin 128) (i : Fin 256) (z : Fin 1) :
    top s (ix4 b g i z) = peak (fun i j => s (ix4 b g i j)) i := by
  show capped lowest (rowTop s) (ix4 b g i z) = _
  rw [capped_apply, lowest_apply, rowTop_apply]
  exact bot_max _

theorem soft_apply (s : FVec Ideal S16x128x256x256 .f32) (b : Fin 16) (g : Fin 128) (i j : Fin 256) :
    soft s (ix4 b g i j) = weight (fun i j => s (ix4 b g i j)) i j := by
  pointwise [soft]
  rw [top_apply]
  rfl

theorem mass_apply (s : FVec Ideal S16x128x256x256 .f32) (b : Fin 16) (g : Fin 128) (i : Fin 256) (z : Fin 1) :
    mass s (ix4 b g i z) = ∑ j : Fin 256, weight (fun i j => s (ix4 b g i j)) i j := by
  pointwise [mass]
  rw [zero_mul, zero_add]
  exact Finset.sum_congr rfl fun j _ => soft_apply s b g i j

theorem blend_apply (s : FVec Ideal S16x128x256x256 .f32) (v : FVec Ideal S16x256x128x128 .f32)
    (b : Fin 16) (i : Fin 256) (g e : Fin 128) :
    blend s v (ix4 b i g e) = ∑ j : Fin 256, weight (fun i j => s (ix4 b g i j)) i j * v (ix4 b j g e) := by
  pointwise [blend]
  rw [zero_mul, zero_add]
  exact Finset.sum_congr rfl fun j _ => by rw [soft_apply, mul_comm]

theorem mean_apply (s : FVec Ideal S16x128x256x256 .f32) (v : FVec Ideal S16x256x128x128 .f32)
    (b : Fin 16) (i : Fin 256) (g e : Fin 128) :
    mean s v (ix4 b i g e) = average (fun i j => s (ix4 b g i j)) (fun j e => v (ix4 b j g e)) i e := by
  pointwise [mean]
  rw [blend_apply, mass_apply]
  rfl

theorem result_apply (x : FVec Ideal S16x256x1024 .f32) (wq wk wv : FVec Ideal S1024x16384 .f32) (wo : FVec Ideal S16384x1024 .f32)
    (b : Fin 16) (i : Fin 256) (n : Fin 1024) :
    result x wq wk wv wo (ix3 b i n)
      = ∑ g : Fin 128, ∑ e : Fin 128,
          headOut (fun i k => x (ix3 b i k)) (fun k f => wq (ix2 k (wcol g f))) (fun k f => wk (ix2 k (wcol g f)))
            (fun k f => wv (ix2 k (wcol g f))) i e * wo (ix2 (wcol g e) n) := by
  pointwise [result]
  rw [Fin.sum_univ_tiles 128 128 rfl]
  refine Finset.sum_congr rfl fun g _ => Finset.sum_congr rfl fun e _ => ?_
  refine congrArg (· * wo (ix2 (wcol g e) n)) ?_
  have hg : (⟨(g.val * 128 + e.val) / 128, by omega⟩ : Fin 128) = g := Fin.ext (by simp only; omega)
  have he : (⟨(g.val * 128 + e.val) % 128, by omega⟩ : Fin 128) = e := Fin.ext (by simp only; omega)
  simp only [hg, he]
  rw [mean_apply]
  unfold headOut scores
  congr 1
  · funext i j
    rw [score_apply]
    simp only [split_apply]
  · funext j e
    exact split_apply _ _ _ _ _ _

end Cert.Whole

end
-- ==== Proof.Same.lean ====
/-
# The equation

From memories where each device holds its part of the reference's arguments, each device's result is its block of the
reference's result: the reference's 128 heads, eight for each device, are summed device by device.
-/
module

public import proofs.«01_k».proof.Proof.Frames
public import proofs.«01_k».proof.Proof.Output
public import proofs.«01_k».proof.Proof.Whole

@[expose] public section

set_option maxRecDepth 16384

noncomputable section

namespace Cert.Heads

open Cert.KernelIdeal Cert.KernelIdeal.Gen

open Idealize.ShloMosaic
open Idealize.ShloMosaic.TcCoe
open Idealize.SL.Sem
open Cert.Whole (wcol result result_apply)

/-- Head `h` of device `d` among all the heads. -/
def headOf (d : Fin 16) (h : Fin 8) : Fin 128 := ⟨d.val * 8 + h.val, by omega⟩

/-! ## The parts of the arguments, at an index -/

theorem batch_at (v : FVec Ideal ⟨3, ![16, 256, 1024]⟩ .f32) (c : Fin 16) (z : Fin 1) (i : Fin 256) (k : Fin 1024) :
    Layout.block ⟨3, ![1, 256, 1024]⟩ ⟨3, ![16, 256, 1024]⟩ 0 16 c v (by decide) (ix3 z i k) = v (ix3 c i k) := by
  obtain rfl : z = 0 := Subsingleton.elim _ _
  refine congrArg v (funext fun a => Fin.ext ?_)
  fin_cases a
  · show c.val * 1 + 0 = c.val
    omega
  · rfl
  · rfl

theorem cols_at (v : FVec Ideal ⟨2, ![1024, 16384]⟩ .f32) (d : Fin 16) (k : Fin 1024) (h : Fin 8) (f : Fin 128) :
    Layout.block ⟨2, ![1024, 1024]⟩ ⟨2, ![1024, 16384]⟩ 1 16 d v (by decide) (ix2 k (col h f)) = v (ix2 k (wcol (headOf d h) f)) := by
  refine congrArg v (funext fun a => Fin.ext ?_)
  fin_cases a
  · rfl
  · show d.val * 1024 + (h.val * 128 + f.val) = (d.val * 8 + h.val) * 128 + f.val
    omega

theorem rows_at (v : FVec Ideal ⟨2, ![16384, 1024]⟩ .f32) (d : Fin 16) (h : Fin 8) (f : Fin 128) (n : Fin 1024) :
    Layout.block ⟨2, ![1024, 1024]⟩ ⟨2, ![16384, 1024]⟩ 0 16 d v (by decide) (ix2 (col h f) n) = v (ix2 (wcol (headOf d h) f) n) := by
  refine congrArg v (funext fun a => Fin.ext ?_)
  fin_cases a
  · show d.val * 1024 + (h.val * 128 + f.val) = (d.val * 8 + h.val) * 128 + f.val
    omega
  · rfl

/-! ## The result -/

section Parts

variable (m : (ℓ : Loc nD τ sig) → Buf (Elt Ideal) ℓ)
  (x : FVec Ideal ⟨3, ![16, 256, 1024]⟩ .f32) (wq wk wv : FVec Ideal ⟨2, ![1024, 16384]⟩ .f32)
  (wo : FVec Ideal ⟨2, ![16384, 1024]⟩ .f32)

/-- Each device's arguments are its parts of the whole arrays. -/
def Parts : Prop := ∀ c : Dev nD,
  m ((c.tc : Thread nD τ).loc main_arg0) = Layout.block ⟨3, ![1, 256, 1024]⟩ ⟨3, ![16, 256, 1024]⟩ 0 16 c x
  ∧ m ((c.tc : Thread nD τ).loc main_arg1) = Layout.block ⟨2, ![1024, 1024]⟩ ⟨2, ![1024, 16384]⟩ 1 16 c wq
  ∧ m ((c.tc : Thread nD τ).loc main_arg2) = Layout.block ⟨2, ![1024, 1024]⟩ ⟨2, ![1024, 16384]⟩ 1 16 c wk
  ∧ m ((c.tc : Thread nD τ).loc main_arg3) = Layout.block ⟨2, ![1024, 1024]⟩ ⟨2, ![1024, 16384]⟩ 1 16 c wv
  ∧ m ((c.tc : Thread nD τ).loc main_arg4) = Layout.block ⟨2, ![1024, 1024]⟩ ⟨2, ![16384, 1024]⟩ 0 16 c wo

variable {m x wq wk wv wo}

theorem outAt_at (hp : Parts m x wq wk wv wo) (c : Dev nD) (z : Fin 1) (i : Fin 256) (n : Fin 1024) :
    outAt m c (ix3 z i n) = result x wq wk wv wo (ix3 c i n) := by
  rw [result_apply]
  refine (outAt_apply m c i n z).trans (Eq.trans ?_ (Fin.sum_univ_tiles 16 8 rfl _).symm)
  refine Finset.sum_congr rfl fun d _ => ?_
  refine (share_apply m i n d c).trans (Finset.sum_congr rfl fun h _ => Finset.sum_congr rfl fun f _ => ?_)
  obtain ⟨h1, h2, h3, h4⟩ := (hp d).2
  rw [(hp c).1, h1, h2, h3, h4, rows_at]
  simp only [batch_at, cols_at]
  rfl

/-- A device's result is its block of the whole result. -/
theorem outAt_eq (hp : Parts m x wq wk wv wo) (c : Dev nD) :
    outAt m c = Layout.block ⟨3, ![1, 256, 1024]⟩ ⟨3, ![16, 256, 1024]⟩ 0 16 c (result x wq wk wv wo) := by
  funext j
  rw [eq_ix3 j]
  exact (outAt_at hp c (j 0) (j 1) (j 2)).trans (batch_at (result x wq wk wv wo) c (j 0) (j 1) (j 2)).symm

end Parts

theorem algebraic : Cert.algebraic_KernelIdeal_ReferenceIdeal := fun m g m' g' _ hp =>
  ⟨Cert.ReferenceIdeal.Value.res_main_v34 m' 0,
    (θ_run Cert.KernelIdeal.defs _ _).mono
      (fun r h c => ⟨((h.1 c).1.trans (outAt_eq hp c)).trans
        (congrArg (fun v => Layout.block ⟨3, ![1, 256, 1024]⟩ ⟨3, ![16, 256, 1024]⟩ 0 16 c v) (Cert.Whole.res_eq m' 0).symm), (h.1 c).2⟩)
      (run_main (F := Ideal) m g),
    (θ_run Cert.ReferenceIdeal.defs _ _).mono (fun r h => h 0) (Cert.ReferenceIdeal.Value.run (F := Ideal) m' g')⟩

end Cert.Heads

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Heads.frame_kernel, Cert.Heads.frame_kernelIdeal, Cert.Heads.frame_referenceIdeal, trivial, Cert.Heads.algebraic⟩

end Cert.Proof

end
